-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_v45) = v6 c
          ∧ r.2.mem ((c.tc : Thread Cert.ReferenceIdeal.nD Cert.ReferenceIdeal.τ).loc Cert.ReferenceIdeal.main_v69) = v7 c
          ∧ r.2.mem ((c.tc : Thread Cert.ReferenceIdeal.nD Cert.ReferenceIdeal.τ).loc Cert.ReferenceIdeal.main_v70) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x512 : Shape := ⟨3, ![8, 2048, 512]⟩
abbrev S8x2048x32 : Shape := ⟨3, ![8, 2048, 32]⟩
abbrev S544x1024 : Shape := ⟨2, ![544, 1024]⟩
abbrev S1024 : Shape := ⟨1, ![1024]⟩
abbrev S1024x1024 : Shape := ⟨2, ![1024, 1024]⟩
abbrev S1024x64 : Shape := ⟨2, ![1024, 64]⟩
abbrev S64 : Shape := ⟨1, ![64]⟩
abbrev S96x1024 : Shape := ⟨2, ![96, 1024]⟩
abbrev S1024x512 : Shape := ⟨2, ![1024, 512]⟩
abbrev S512 : Shape := ⟨1, ![512]⟩
abbrev S16384x512 : Shape := ⟨2, ![16384, 512]⟩
abbrev S16384x32 : Shape := ⟨2, ![16384, 32]⟩
abbrev S1x1024 : Shape := ⟨2, ![1, 1024]⟩
abbrev S1x64 : Shape := ⟨2, ![1, 64]⟩
abbrev S_ : Shape := ⟨0, ![]⟩
abbrev S1x512 : Shape := ⟨2, ![1, 512]⟩
abbrev S8x1x2048 : Shape := ⟨3, ![8, 1, 2048]⟩
abbrev S16384x64 : Shape := ⟨2, ![16384, 64]⟩
abbrev S8x1x128 : Shape := ⟨3, ![8, 1, 128]⟩
abbrev S8x2048 : Shape := ⟨2, ![8, 2048]⟩
abbrev S8x2048x64 : Shape := ⟨3, ![8, 2048, 64]⟩
abbrev S8x128 : Shape := ⟨2, ![8, 128]⟩
abbrev S8x1 : Shape := ⟨2, ![8, 1]⟩
abbrev S8 : Shape := ⟨1, ![8]⟩
abbrev S2048x512 : Shape := ⟨2, ![2048, 512]⟩
abbrev S2048x32 : Shape := ⟨2, ![2048, 32]⟩
abbrev S1x1x2048 : Shape := ⟨3, ![1, 1, 2048]⟩
abbrev S2048x64 : Shape := ⟨2, ![2048, 64]⟩
abbrev S1x1x128 : Shape := ⟨3, ![1, 1, 128]⟩
abbrev S64x1024 : Shape := ⟨2, ![64, 1024]⟩
abbrev S32x1024 : Shape := ⟨2, ![32, 1024]⟩
abbrev S512x512 : Shape := ⟨2, ![512, 512]⟩
abbrev S512x32 : Shape := ⟨2, ![512, 32]⟩
abbrev S512x544 : Shape := ⟨2, ![512, 544]⟩
abbrev S512x1024 : Shape := ⟨2, ![512, 1024]⟩
abbrev S512x64 : Shape := ⟨2, ![512, 64]⟩
abbrev S512x8 : Shape := ⟨2, ![512, 8]⟩
abbrev S512x4 : Shape := ⟨2, ![512, 4]⟩
abbrev S512x2 : Shape := ⟨2, ![512, 2]⟩
abbrev S512x1 : Shape := ⟨2, ![512, 1]⟩
abbrev S1x512x64 : Shape := ⟨3, ![1, 512, 64]⟩
abbrev S1 : Shape := ⟨1, ![1]⟩
abbrev S1x1x1 : Shape := ⟨3, ![1, 1, 1]⟩
abbrev S1x512x512 : Shape := ⟨3, ![1, 512, 512]⟩
abbrev S1x1x512 : Shape := ⟨3, ![1, 1, 512]⟩
abbrev S1x128 : Shape := ⟨2, ![1, 128]⟩

abbrev nBuf : Space → Nat
  | .hbm => 53
  | .vmem => 28
  | .smem => 0
  | _ => 0

abbrev bufTy : (tb : Table) → Fin (tcTables nBuf tb) → BufTy
  | .hbm, ⟨0, _⟩ => ⟨S8x2048x512, .f32⟩
  | .hbm, ⟨1, _⟩ => ⟨S8x2048x32, .f32⟩
  | .hbm, ⟨2, _⟩ => ⟨S544x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x64, .f32⟩
  | .hbm, ⟨7, _⟩ => ⟨S64, .f32⟩
  | .hbm, ⟨8, _⟩ => ⟨S1024x64, .f32⟩
  | .hbm, ⟨9, _⟩ => ⟨S96x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S16384x512, .f32⟩
  | .hbm, ⟨16, _⟩ => ⟨S16384x32, .f32⟩
  | .hbm, ⟨17, _⟩ => ⟨S1x1024, .f32⟩
  | .hbm, ⟨18, _⟩ => ⟨S1x1024, .f32⟩
  | .hbm, ⟨19, _⟩ => ⟨S1x64, .f32⟩
  | .hbm, ⟨20, _⟩ => ⟨S1024x64, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x512, .f32⟩
  | .hbm, ⟨27, _⟩ => ⟨S16384x512, .f32⟩
  | .hbm, ⟨28, _⟩ => ⟨S8x1x2048, .i32⟩
  | .hbm, ⟨29, _⟩ => ⟨S16384x64, .f32⟩
  | .hbm, ⟨30, _⟩ => ⟨S16384x64, .f32⟩
  | .hbm, ⟨31, _⟩ => ⟨S8x1x128, .f32⟩
  | .hbm, ⟨32, _⟩ => ⟨S8x2048x512, .f32⟩
  | .hbm, ⟨33, _⟩ => ⟨S8x2048, .i32⟩
  | .hbm, ⟨34, _⟩ => ⟨S8x2048x64, .f32⟩
  | .hbm, ⟨35, _⟩ => ⟨S8x2048x64, .f32⟩
  | .hbm, ⟨36, _⟩ => ⟨S8x128, .f32⟩
  | .hbm, ⟨37, _⟩ => ⟨S8x1, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S8x1, .f32⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x32, .f32⟩
  | .local _ .vmem, ⟨3, _⟩ => ⟨S2048x32, .f32⟩
  | .local _ .vmem, ⟨4, _⟩ => ⟨S544x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1024x64, .f32⟩
  | .local _ .vmem, ⟨9, _⟩ => ⟨S1x64, .f32⟩
  | .local _ .vmem, ⟨10, _⟩ => ⟨S1024x64, .f32⟩
  | .local _ .vmem, ⟨11, _⟩ => ⟨S1x1024, .f32⟩
  | .local _ .vmem, ⟨12, _⟩ => ⟨S96x1024, .f32⟩
  | .local _ .vmem, ⟨13, _⟩ => ⟨S1x1024, .f32⟩
  | .local _ .vmem, ⟨14, _⟩ => ⟨S1024x1024, .f32⟩
  | .local _ .vmem, ⟨15, _⟩ => ⟨S1x1024, .f32⟩
  | .local _ .vmem, ⟨16, _⟩ => ⟨S1024x512, .f32⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | .local _ .vmem, ⟨20, _⟩ => ⟨S1x1x2048, .i32⟩
  | .local _ .vmem, ⟨21, _⟩ => ⟨S1x1x2048, .i32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S1x1x128, .f32⟩
  | .local _ .vmem, ⟨27, _⟩ => ⟨S1x1x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_cst : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11_0 : Ref sig .tc := ⟨.hbm, 27, rfl⟩
abbrev main_call0_v11_1 : Ref sig .tc := ⟨.hbm, 28, rfl⟩
abbrev main_call0_v11_2 : Ref sig .tc := ⟨.hbm, 29, rfl⟩
abbrev main_call0_v11_3 : Ref sig .tc := ⟨.hbm, 30, rfl⟩
abbrev main_call0_v11_4 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_cst_0 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_cst_1 : Ref sig .tc := ⟨.hbm, 43, rfl⟩
abbrev main_call0_v22 : Ref sig .tc := ⟨.hbm, 44, rfl⟩
abbrev main_call0_cst_2 : Ref sig .tc := ⟨.hbm, 45, rfl⟩
abbrev main_v0_4 : Ref sig .tc := ⟨.hbm, 46, rfl⟩
abbrev main_call0_cst_3 : Ref sig .tc := ⟨.hbm, 47, rfl⟩
abbrev main_v0_6 : Ref sig .tc := ⟨.hbm, 48, rfl⟩
abbrev main_call0_cst_4 : Ref sig .tc := ⟨.hbm, 49, rfl⟩
abbrev main_v0_5 : Ref sig .tc := ⟨.hbm, 50, rfl⟩
abbrev main_v0_7 : Ref sig .tc := ⟨.hbm, 51, rfl⟩
abbrev main_v0_8 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S544x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x2048 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8x2048x512 : Shape := ⟨3, ![8, 2048, 512]⟩
abbrev S8x2048x32 : Shape := ⟨3, ![8, 2048, 32]⟩
abbrev S544x1024 : Shape := ⟨2, ![544, 1024]⟩
abbrev S1024 : Shape := ⟨1, ![1024]⟩
abbrev S1024x1024 : Shape := ⟨2, ![1024, 1024]⟩
abbrev S1024x64 : Shape := ⟨2, ![1024, 64]⟩
abbrev S64 : Shape := ⟨1, ![64]⟩
abbrev S96x1024 : Shape := ⟨2, ![96, 1024]⟩
abbrev S1024x512 : Shape := ⟨2, ![1024, 512]⟩
abbrev S512 : Shape := ⟨1, ![512]⟩
abbrev S16384x512 : Shape := ⟨2, ![16384, 512]⟩
abbrev S16384x32 : Shape := ⟨2, ![16384, 32]⟩
abbrev S16384x544 : Shape := ⟨2, ![16384, 544]⟩
abbrev S16384x1024 : Shape := ⟨2, ![16384, 1024]⟩
abbrev S1x1024 : Shape := ⟨2, ![1, 1024]⟩
abbrev S_ : Shape := ⟨0, ![]⟩
abbrev S16384x64 : Shape := ⟨2, ![16384, 64]⟩
abbrev S1x64 : Shape := ⟨2, ![1, 64]⟩
abbrev S8x2048x64 : Shape := ⟨3, ![8, 2048, 64]⟩
abbrev S16384 : Shape := ⟨1, ![16384]⟩
abbrev S16384x1 : Shape := ⟨2, ![16384, 1]⟩
abbrev S64x1024 : Shape := ⟨2, ![64, 1024]⟩
abbrev S1 : Shape := ⟨1, ![1]⟩
abbrev S1x1 : Shape := ⟨2, ![1, 1]⟩
abbrev S8x2048 : Shape := ⟨2, ![8, 2048]⟩
abbrev S16384x96 : Shape := ⟨2, ![16384, 96]⟩
abbrev S1x512 : Shape := ⟨2, ![1, 512]⟩

abbrev nBuf : Space → Nat
  | .hbm => 130
  | .vmem => 0
  | .smem => 0
  | _ => 0

abbrev hbmTy0_0 (i : Nat) : BufTy := match i % 128 with
  | 0 => ⟨S8x2048x512, .f32⟩
  | 1 => ⟨S8x2048x32, .f32⟩
  | 2 => ⟨S544x1024, .f32⟩
  | 3 => ⟨S1024, .f32⟩
  | 4 => ⟨S1024x1024, .f32⟩
  | 5 => ⟨S1024, .f32⟩
  | 6 => ⟨S1024x64, .f32⟩
  | 7 => ⟨S64, .f32⟩
  | 8 => ⟨S1024x64, .f32⟩
  | 9 => ⟨S96x1024, .f32⟩
  | 10 => ⟨S1024, .f32⟩
  | 11 => ⟨S1024x1024, .f32⟩
  | 12 => ⟨S1024, .f32⟩
  | 13 => ⟨S1024x512, .f32⟩
  | 14 => ⟨S512, .f32⟩
  | 15 => ⟨S16384x512, .f32⟩
  | 16 => ⟨S16384x32, .f32⟩
  | 17 => ⟨S16384x544, .f32⟩
  | 18 => ⟨S16384x1024, .f32⟩
  | 19 => ⟨S1x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S1x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S16384x64, .f32⟩
  | 33 => ⟨S1x64, .f32⟩
  | 34 => ⟨S16384x64, .f32⟩
  | 35 => ⟨S16384x64, .f32⟩
  | 36 => ⟨S8x2048x64, .f32⟩
  | 37 => ⟨S16384x64, .f32⟩
  | 38 => ⟨S16384x64, .f32⟩
  | 39 => ⟨S_, .f32⟩
  | 40 => ⟨S16384, .f32⟩
  | 41 => ⟨S16384x1, .f32⟩
  | 42 => ⟨S64x1024, .f32⟩
  | 43 => ⟨S16384x1024, .f32⟩
  | 44 => ⟨S_, .f32⟩
  | 45 => ⟨S16384x1024, .f32⟩
  | 46 => ⟨S16384x1024, .f32⟩
  | 47 => ⟨S16384x1024, .f32⟩
  | 48 => ⟨S16384x1024, .f32⟩
  | 49 => ⟨S1024x64, .f32⟩
  | 50 => ⟨S_, .f32⟩
  | 51 => ⟨S1024, .f32⟩
  | 52 => ⟨S1x1024, .f32⟩
  | 53 => ⟨S16384x1024, .f32⟩
  | 54 => ⟨S16384x1024, .f32⟩
  | 55 => ⟨S16384x1024, .i32⟩
  | 56 => ⟨S_, .f32⟩
  | 57 => ⟨S_, .i32⟩
  | 58 => ⟨S16384, .f32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x64, .f32⟩
  | 79 => ⟨S16384x64, .i1⟩
  | 80 => ⟨S_, .f32⟩
  | 81 => ⟨S16384x64, .f32⟩
  | 82 => ⟨S16384x64, .f32⟩
  | 83 => ⟨S8x2048x64, .f32⟩
  | 84 => ⟨S8x2048, .i32⟩
  | 85 => ⟨S8x2048x64, .f32⟩
  | 86 => ⟨S8x2048x64, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8x2048x64, .f32⟩
  | 94 => ⟨S8x2048x64, .f32⟩
  | 95 => ⟨S_, .f32⟩
  | 96 => ⟨S_, .f32⟩
  | 97 => ⟨S_, .f32⟩
  | 98 => ⟨S_, .f32⟩
  | 99 => ⟨S8x2048x64, .f32⟩
  | 100 => ⟨S8x2048x64, .f32⟩
  | 101 => ⟨S16384x64, .f32⟩
  | 102 => ⟨S16384x96, .f32⟩
  | 103 => ⟨S16384x1024, .f32⟩
  | 104 => ⟨S1x1024, .f32⟩
  | 105 => ⟨S16384x1024, .f32⟩
  | 106 => ⟨S16384x1024, .f32⟩
  | 107 => ⟨S_, .f32⟩
  | 108 => ⟨S16384x1024, .f32⟩
  | 109 => ⟨S16384x1024, .f32⟩
  | 110 => ⟨S16384x1024, .f32⟩
  | 111 => ⟨S1x1024, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S16384x512, .f32⟩
  | 118 => ⟨S1x512, .f32⟩
  | 119 => ⟨S16384x512, .f32⟩
  | 120 => ⟨S16384x512, .f32⟩
  | 121 => ⟨S8x2048x512, .f32⟩
  | 122 => ⟨S8x2048x512, .f32⟩
  | 123 => ⟨S8x2048x512, .f32⟩
  | 124 => ⟨S_, .f32⟩
  | 125 => ⟨S_, .f32⟩
  | 126 => ⟨S_, .f32⟩
  | 127 => ⟨S_, .f32⟩
  | _ => ⟨S8x2048x512, .f32⟩

abbrev hbmTy0_1 (i : Nat) : BufTy := match i % 128 with
  | 0 => ⟨S_, .f32⟩
  | 1 => ⟨S_, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_cst : Ref sig .tc := ⟨.hbm, 56, rfl⟩
abbrev main_call2_c : Ref sig .tc := ⟨.hbm, 57, rfl⟩
abbrev main_call2_v1_0 : Ref sig .tc := ⟨.hbm, 58, rfl⟩
abbrev main_v33 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_call3_cst : Ref sig .tc := ⟨.hbm, 80, rfl⟩
abbrev main_call3_v15 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_2 : Ref sig .tc := ⟨.hbm, 87, rfl⟩
abbrev main_v39 : Ref sig .tc := ⟨.hbm, 88, rfl⟩
abbrev main_cst_3 : Ref sig .tc := ⟨.hbm, 89, rfl⟩
abbrev main_v40 : Ref sig .tc := ⟨.hbm, 90, rfl⟩
abbrev main_cst_4 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_5 : Ref sig .tc := ⟨.hbm, 95, rfl⟩
abbrev main_v44 : Ref sig .tc := ⟨.hbm, 96, rfl⟩
abbrev main_cst_6 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_call4_cst : Ref sig .tc := ⟨.hbm, 107, rfl⟩
abbrev main_call4_v0 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_call5_cst : Ref sig .tc := ⟨.hbm, 114, rfl⟩
abbrev main_call5_v0 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_7 : Ref sig .tc := ⟨.hbm, 124, rfl⟩
abbrev main_v67 : Ref sig .tc := ⟨.hbm, 125, rfl⟩
abbrev main_cst_8 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩

abbrev nD : Nat := 1
abbrev τ : Topo := Topo.v7x

variable {F : FTy → Type} [FloatOps F]
-- ==== Proof.Spec.lean ====
module

public import Idealize.ShloMosaic.Lib.Pointwise

/-! # What both programs compute, one row at a time

Every array of the model is a family of rows, and each row of every result depends on one row of the observations
and of the actions and on the weights. This file states those row functions over the extended reals; the kernel
and the reference are both shown equal to them. -/

open Idealize Idealize.ShloMosaic

@[expose] public noncomputable section

namespace Cert.Proof.Spec

/-- A dense layer on a row: the row times a matrix, plus a bias. -/
def dense {n k : ℕ} (W : Fin n → Fin k → EReal) (b : Fin k → EReal) (x : Fin n → EReal) : Fin k → EReal :=
  fun j => (∑ i, x i * W i j) + b j

/-- The positive part of a row. -/
def relu {n : ℕ} (x : Fin n → EReal) : Fin n → EReal := fun j => max (x j) 0

/-- The weights of one three-layer network whose input is two rows laid end to end: the first layer's matrix is
    given as the part that meets the first row and the part that meets the second. -/
structure Net (n m k p : ℕ) where
  /-- First layer, the rows that meet the first input. -/
  A : Fin n → Fin k → EReal
  /-- First layer, the rows that meet the second input. -/
  B : Fin m → Fin k → EReal
  /-- Its bias. -/
  b1 : Fin k → EReal
  /-- Second layer. -/
  W2 : Fin k → Fin k → EReal
  /-- Its bias. -/
  b2 : Fin k → EReal
  /-- Last layer. -/
  W3 : Fin k → Fin p → EReal
  /-- Its bias. -/
  b3 : Fin p → EReal

/-- The first hidden row of a network, before its positive part is taken: both inputs' products and the bias. -/
def Net.pre {n m k p : ℕ} (w : Net n m k p) (x : Fin n → EReal) (y : Fin m → EReal) : Fin k → EReal :=
  fun j => ((∑ i, x i * w.A i j) + ∑ i, y i * w.B i j) + w.b1 j

/-- A whole network on two rows: two more layers, each over a positive part. -/
def Net.run {n m k p : ℕ} (w : Net n m k p) (x : Fin n → EReal) (y : Fin m → EReal) : Fin p → EReal :=
  dense w.W3 w.b3 (relu (dense w.W2 w.b2 (relu (w.pre x y))))

/-- The squared distance of a row to a codeword, spelt out: the row's square, less twice (the f32 constant 2.0)
    their product, plus the codeword's square. -/
def cbDist {n d : ℕ} (cb : Fin n → Fin d → EReal) (x : Fin d → EReal) : Fin n → EReal :=
  fun k => ((∑ l, x l * x l) - Ideal.ofBits .f32 0x40000000#32 * ∑ l, x l * cb k l) + ∑ l, cb k l * cb k l

/-- `k` is the first place where `f` is least. -/
def IsFirstMin {n : ℕ} (f : Fin n → EReal) (k : Fin n) : Prop :=
  (∀ j, f k ≤ f j) ∧ ∀ j, f j = f k → k ≤ j

/-- A nonempty finite family has a first least place. -/
theorem exists_firstMin {n : ℕ} (h : 0 < n) (f : Fin n → EReal) : ∃ k, IsFirstMin f k := by
  classical
  have : Nonempty (Fin n) := ⟨⟨0, h⟩⟩
  obtain ⟨k₀, hk₀⟩ := Finite.exists_min f
  have hne : (Finset.univ.filter fun k => f k = f k₀).Nonempty := ⟨k₀, by simp⟩
  refine ⟨(Finset.univ.filter fun k => f k = f k₀).min' hne, ?_, ?_⟩
  · have := Finset.min'_mem _ hne
    simp only [Finset.mem_filter, Finset.mem_univ, true_and] at this
    intro j; rw [this]; exact hk₀ j
  · intro j hj
    have := Finset.min'_mem _ hne
    simp only [Finset.mem_filter, Finset.mem_univ, true_and] at this
    exact Finset.min'_le _ _ (by simp [hj, this])

/-- The first least place is one place. -/
theorem IsFirstMin.unique {n : ℕ} {f : Fin n → EReal} {k k' : Fin n} (h : IsFirstMin f k) (h' : IsFirstMin f k') :
    k = k' :=
  le_antisymm (h.2 _ (le_antisymm (h'.1 k) (h.1 k'))) (h'.2 _ (le_antisymm (h.1 k') (h'.1 k)))

/-- The first place where a family over 1024 places is least. -/
def firstMin (f : Fin 1024 → EReal) : Fin 1024 := (exists_firstMin (by decide) f).choose

/-- It is one. -/
theorem firstMin_spec (f : Fin 1024 → EReal) : IsFirstMin f (firstMin f) := (exists_firstMin (by decide) f).choose_spec

/-- A first least place is that one. -/
theorem eq_firstMin {f : Fin 1024 → EReal} {k : Fin 1024} (h : IsFirstMin f k) : k = firstMin f :=
  h.unique (firstMin_spec f)

/-- All the weights: the encoder, the codebook and the decoder. -/
structure Weights where
  /-- The encoder. -/
  enc : Net 512 32 1024 64
  /-- The codebook, one codeword a row. -/
  cb : Fin 1024 → Fin 64 → EReal
  /-- The decoder. -/
  dec : Net 64 32 1024 512

section Row

variable (w : Weights) (o : Fin 512 → EReal) (a : Fin 32 → EReal)

/-- The latent row. -/
def lat : Fin 64 → EReal := w.enc.run o a

/-- The token: the first codeword least far from the latent row. -/
def tok : Fin 1024 := firstMin (cbDist w.cb (lat w o a))

/-- The codeword chosen. -/
def quant : Fin 64 → EReal := w.cb (tok w o a)

/-- The quantized row passed on: the latent row plus its difference to the codeword. -/
def qst : Fin 64 → EReal := fun l => lat w o a l + (quant w o a l - lat w o a l)

/-- The reconstructed row. -/
def recon : Fin 512 → EReal := w.dec.run (qst w o a) a

/-- The squared difference of the latent row and its codeword, at one lane. -/
def latSq (l : Fin 64) : EReal :=
  (lat w o a l - quant w o a l) * (lat w o a l - quant w o a l)

/-- The squared difference of the reconstruction and the observation, at one lane. -/
def recSq (j : Fin 512) : EReal := (recon w o a j - o j) * (recon w o a j - o j)

end Row

/-- The fifteen arguments, as arrays. -/
structure Args where
  /-- Observations. -/
  x0 : FVec Ideal ⟨3, ![8, 2048, 512]⟩ .f32
  /-- Actions. -/
  x1 : FVec Ideal ⟨3, ![8, 2048, 32]⟩ .f32
  /-- Encoder, first layer. -/
  x2 : FVec Ideal ⟨2, ![544, 1024]⟩ .f32
  /-- Its bias. -/
  x3 : FVec Ideal ⟨1, ![1024]⟩ .f32
  /-- Second layer. -/
  x4 : FVec Ideal ⟨2, ![1024, 1024]⟩ .f32
  /-- Its bias. -/
  x5 : FVec Ideal ⟨1, ![1024]⟩ .f32
  /-- Last layer. -/
  x6 : FVec Ideal ⟨2, ![1024, 64]⟩ .f32
  /-- Its bias. -/
  x7 : FVec Ideal ⟨1, ![64]⟩ .f32
  /-- Codebook. -/
  x8 : FVec Ideal ⟨2, ![1024, 64]⟩ .f32
  /-- Decoder, first layer. -/
  x9 : FVec Ideal ⟨2, ![96, 1024]⟩ .f32
  /-- Its bias. -/
  x10 : FVec Ideal ⟨1, ![1024]⟩ .f32
  /-- Second layer. -/
  x11 : FVec Ideal ⟨2, ![1024, 1024]⟩ .f32
  /-- Its bias. -/
  x12 : FVec Ideal ⟨1, ![1024]⟩ .f32
  /-- Last layer. -/
  x13 : FVec Ideal ⟨2, ![1024, 512]⟩ .f32
  /-- Its bias. -/
  x14 : FVec Ideal ⟨1, ![512]⟩ .f32

/-- The weights among the arguments. -/
def Args.w (A : Args) : Weights where
  enc :=
    { A i j := A.x2 (ix2 ⟨i.val, by omega⟩ j)
      B i j := A.x2 (ix2 ⟨512 + i.val, by omega⟩ j)
      b1 j := A.x3 (ix1 j)
      W2 i j := A.x4 (ix2 i j)
      b2 j := A.x5 (ix1 j)
      W3 i j := A.x6 (ix2 i j)
      b3 j := A.x7 (ix1 j) }
  cb k l := A.x8 (ix2 k l)
  dec :=
    { A i j := A.x9 (ix2 ⟨i.val, by omega⟩ j)
      B i j := A.x9 (ix2 ⟨64 + i.val, by omega⟩ j)
      b1 j := A.x10 (ix1 j)
      W2 i j := A.x11 (ix2 i j)
      b2 j := A.x12 (ix1 j)
      W3 i j := A.x13 (ix2 i j)
      b3 j := A.x14 (ix1 j) }

/-- Row `i` of batch entry `t` of the observations. -/
def Args.o (A : Args) (t : Fin 8) (i : Fin 2048) : Fin 512 → EReal := fun k => A.x0 (ix3 t i k)

/-- Row `i` of batch entry `t` of the actions. -/
def Args.a (A : Args) (t : Fin 8) (i : Fin 2048) : Fin 32 → EReal := fun k => A.x1 (ix3 t i k)

/-- All the squared differences of latent rows and codewords, summed. -/
def Args.latSum (A : Args) : EReal := ∑ t : Fin 8, ∑ i : Fin 2048, ∑ l : Fin 64, latSq A.w (A.o t i) (A.a t i) l

/-- All the squared differences of reconstructed rows and observations, summed. -/
def Args.recSum (A : Args) : EReal := ∑ t : Fin 8, ∑ i : Fin 2048, ∑ j : Fin 512, recSq A.w (A.o t i) (A.a t i) j

variable (A : Args)

/-- The reconstructed observations. -/
def Args.reconArr : FVec Ideal ⟨3, ![8, 2048, 512]⟩ .f32 := fun z => recon A.w (A.o (z 0) (z 1)) (A.a (z 0) (z 1)) (z 2)

/-- The tokens. -/
def Args.tokArr : IVec ⟨2, ![8, 2048]⟩ 32 := fun z => BitVec.ofNat 32 (tok A.w (A.o (z 0) (z 1)) (A.a (z 0) (z 1))).val

/-- The quantized rows passed on. -/
def Args.qstArr : FVec Ideal ⟨3, ![8, 2048, 64]⟩ .f32 := fun z => qst A.w (A.o (z 0) (z 1)) (A.a (z 0) (z 1)) (z 2)

/-- The latent rows. -/
def Args.latArr : FVec Ideal ⟨3, ![8, 2048, 64]⟩ .f32 := fun z => lat A.w (A.o (z 0) (z 1)) (A.a (z 0) (z 1)) (z 2)

/-- The reconstruction loss: the mean of the reconstruction's squares. -/
def Args.reconLoss : FVec Ideal ⟨0, ![]⟩ .f32 := Host.divf (fun _ => A.recSum) (constant ⟨0, ![]⟩ .f32 0x4B000000#32)

/-- The codebook loss: the mean of the latents' squares. -/
def Args.codebookLoss : FVec Ideal ⟨0, ![]⟩ .f32 := Host.divf (fun _ => A.latSum) (constant ⟨0, ![]⟩ .f32 0x49800000#32)

/-- The commitment loss: a quarter of the same mean. -/
def Args.commitLoss : FVec Ideal ⟨0, ![]⟩ .f32 := mulf A.codebookLoss (constant ⟨0, ![]⟩ .f32 0x3E800000#32)

/-- The quantizer's loss: both losses of the latents. -/
def Args.quantLoss : FVec Ideal ⟨0, ![]⟩ .f32 := addf A.commitLoss A.codebookLoss

/-- The whole loss. -/
def Args.totalLoss : FVec Ideal ⟨0, ![]⟩ .f32 := addf A.reconLoss A.quantLoss

end Cert.Proof.Spec
-- ==== Proof.Scalars.lean ====
module

public import proofs.«01_k».proof.Proof.Spec
public import Idealize.ShloMosaic.Lib.Pipeline.ValueKit

/-! # Sums, minima and one-hot products over the extended reals -/

open Idealize Idealize.ShloMosaic

@[expose] public noncomputable section

namespace Cert.Proof.Scalars

open Cert.Proof.Spec

/-- A sum over 64 lanes, folded in eights and then in halves, as the kernel folds it. -/
theorem sum64 (f : Fin 64 → EReal) : ∑ l, f l =
    ((((f 0 + f 8 + f 16 + f 24 + f 32 + f 40 + f 48 + f 56) + (f 4 + f 12 + f 20 + f 28 + f 36 + f 44 + f 52 + f 60))
    + ((f 2 + f 10 + f 18 + f 26 + f 34 + f 42 + f 50 + f 58) + (f 6 + f 14 + f 22 + f 30 + f 38 + f 46 + f 54 + f 62)))
    + (((f 1 + f 9 + f 17 + f 25 + f 33 + f 41 + f 49 + f 57) + (f 5 + f 13 + f 21 + f 29 + f 37 + f 45 + f 53 + f 61))
    + ((f 3 + f 11 + f 19 + f 27 + f 35 + f 43 + f 51 + f 59) + (f 7 + f 15 + f 23 + f 31 + f 39 + f 47 + f 55 + f 63)))) := by
  have h : ∑ l, f l = ∑ r : Fin 8, ∑ q : Fin 8, f ⟨q.val * 8 + r.val, by omega⟩ := by
    rw [Finset.sum_comm]
    exact (Fin.sum_mul_add_fin 8 8 f).symm
  have c : ∀ r : Fin 8, ∑ q : Fin 8, f ⟨q.val * 8 + r.val, by omega⟩ = f ⟨r.val, by omega⟩ + f ⟨8 + r.val, by omega⟩
      + f ⟨16 + r.val, by omega⟩ + f ⟨24 + r.val, by omega⟩ + f ⟨32 + r.val, by omega⟩ + f ⟨40 + r.val, by omega⟩
      + f ⟨48 + r.val, by omega⟩ + f ⟨56 + r.val, by omega⟩ := fun r => by
    rw [Fin.sum_univ_eight]
    congr <;> simp
  have e : ∀ g : Fin 8 → EReal, ∑ r, g r = ((g 0 + g 4) + (g 2 + g 6)) + ((g 1 + g 5) + (g 3 + g 7)) := fun g => by
    rw [Fin.sum_univ_eight]; abel
  rw [h, e]
  simp only [c]
  rfl

/-- The fold of minima from a start at or above everything is the least value. -/
theorem fold_min_eq (f : Fin 1024 → EReal) (k : Fin 1024) (hk : ∀ j, f k ≤ f j) :
    Finset.univ.fold min (Ideal.ofBits .f32 0x7F800000#32) f = f k := by
  have ht : (Ideal.ofBits .f32 0x7F800000#32 : EReal) = ⊤ := by
    simp [Ideal.ofBits, Ideal.ieee]
  rw [ht]
  apply le_antisymm
  · exact (Finset.fold_min_le _).2 (Or.inr ⟨k, Finset.mem_univ _, le_rfl⟩)
  · exact (Finset.le_fold_min _).2 ⟨le_top, fun j _ => hk j⟩

/-- The signed minimum reads as the minimum of the integers. -/
theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

/-- A lane number below 1024 as a signed word is itself. -/
theorem toInt_ofNat {n : ℕ} (h : n ≤ 1024) : (BitVec.ofNat 32 n).toInt = n := by
  rw [BitVec.toInt_ofNat']
  rw [Int.bmod_eq_of_le] <;> omega

/-- The kernel's token of a row of distances: the least lane among those that attain the row's minimum. -/
theorem fold_minsi_eq (f : Fin 1024 → EReal) :
    Finset.univ.fold IntOp.minsi (2147483647#32)
        (fun x : Fin 1024 => if f x = Finset.univ.fold min (Ideal.ofBits .f32 0x7F800000#32) f then BitVec.ofNat 32 x.val
          else 1024#32)
      = BitVec.ofNat 32 (firstMin f).val := by
  obtain ⟨h₁, h₂⟩ := firstMin_spec f
  rw [fold_min_eq f _ h₁]
  apply BitVec.eq_of_toInt_eq
  rw [toInt_ofNat (by omega), ← Finset.fold_hom (op' := min) toInt_minsi]
  apply le_antisymm
  · refine (Finset.fold_min_le _).2 (Or.inr ⟨firstMin f, Finset.mem_univ _, ?_⟩)
    rw [if_pos rfl, toInt_ofNat (by omega)]
  · refine (Finset.le_fold_min _).2 ⟨by simp; omega, fun j _ => ?_⟩
    split
    · next h => rw [toInt_ofNat (by omega)]; exact_mod_cast h₂ j h
    · have := (firstMin f).isLt
      rw [toInt_ofNat le_rfl]
      omega

/-- A row of the codebook picked by a one-hot row: the sum has one term. -/
theorem onehot_sum (k : Fin 1024) (g : Fin 1024 → EReal) :
    ∑ x : Fin 1024, (FloatOps.sitofp (F := Ideal) .f32
        (BitVec.setWidth 32 (IntOp.cmpi CmpIPredicate.eq (BitVec.ofNat 32 k.val) (BitVec.ofNat 32 x.val))) : EReal) * g x = g k := by
  have h : ∀ x : Fin 1024, (FloatOps.sitofp (F := Ideal) .f32
      (BitVec.setWidth 32 (IntOp.cmpi CmpIPredicate.eq (BitVec.ofNat 32 k.val) (BitVec.ofNat 32 x.val))) : EReal)
        = if x = k then 1 else 0 := by
    intro x
    have hx : (BitVec.ofNat 32 k.val == BitVec.ofNat 32 x.val) = decide (x = k) := by
      rw [Bool.eq_iff_iff]
      simp only [beq_iff_eq, decide_eq_true_eq]
      constructor
      · intro h
        have := congrArg BitVec.toInt h
        rw [toInt_ofNat (by omega), toInt_ofNat (by omega)] at this
        omega
      · rintro rfl; rfl
    simp only [IntOp.cmpi, hx]
    change (((BitVec.setWidth 32 (BitVec.ofBool (decide (x = k)))).toInt : ℝ) : EReal) = _
    by_cases h : x = k <;> simp [h]
  simp only [h, ite_mul, one_mul, zero_mul, Finset.sum_ite_eq', Finset.mem_univ, if_true]

/-- A difference squared is the same either way round, at the infinities as well. -/
theorem sub_sq_comm (a b : EReal) : (a - b) * (a - b) = (b - a) * (b - a) := by
  induction a <;> induction b <;> simp [← EReal.coe_sub, ← EReal.coe_mul] <;> ring

end Cert.Proof.Scalars
-- ==== Proof.Rows.lean ====
module

public import proofs.«01_k».proof.Proof.Scalars
public import proofs.«01_k».proof.Proof.Gen.KernelIdeal.Skeleton

/-! # The kernel's chain of 512 rows, row by row

The body works on four chains of 512 rows by one text. Here that text (the first chain's payloads) is read at a row:
each value is the row function of `Spec` at the loaded weights and at that row of the observations and actions. -/

open Idealize Idealize.ShloMosaic

@[expose] public noncomputable section

namespace Cert.Proof.Rows

open Cert.KernelIdeal Cert.KernelIdeal.Gen Cert.Proof.Spec

/-- What the body loads for all its chains: the codebook, the two networks' weights, the codewords' squares. -/
structure Loads (F : FTy → Type) where
  /-- The codebook. -/
  v0 : Vec F S1024x64 .f32
  /-- The encoder, layer by layer. -/
  v1 : Vec F S544x1024 .f32
  /-- First bias. -/
  v3 : FVec F S1x1024 .f32
  /-- Second layer. -/
  v4 : Vec F S1024x1024 .f32
  /-- Second bias. -/
  v6 : FVec F S1x1024 .f32
  /-- Last layer. -/
  v7 : Vec F S1024x64 .f32
  /-- Last bias. -/
  v9 : FVec F S1x64 .f32
  /-- The codewords' squares. -/
  v11 : FVec F S1x1024 .f32
  /-- The decoder: the first layer's rows that meet the quantized row, -/
  v12 : Vec F S64x1024 .f32
  /-- and those that meet the actions. -/
  v13 : Vec F S32x1024 .f32
  /-- First bias. -/
  v15 : FVec F S1x1024 .f32
  /-- Second layer. -/
  v16 : Vec F S1024x1024 .f32
  /-- Second bias. -/
  v18 : FVec F S1x1024 .f32
  /-- Last layer. -/
  v19 : Vec F S1024x512 .f32
  /-- Last bias. -/
  v21 : FVec F S1x512 .f32

section Chain

variable {F : FTy → Type} [FloatOps F] (b : Loads F) (o : FVec F S512x512 .f32) (a : FVec F S512x32 .f32)

/-- A chain's latent rows. -/
def L : FVec F S512x64 .f32 := k0_pay17 b.v1 b.v3 b.v4 b.v6 b.v7 b.v9 o a

/-- A chain's distances, over its latent rows and their lane-folded squares. -/
def D : FVec F S512x1024 .f32 := k0_pay19 b.v0 b.v11 (L b o a) (k0_pay18 b.v1 b.v3 b.v4 b.v6 b.v7 b.v9 o a)

/-- A chain's tokens. -/
def T : IVec S512 32 := k0_pay24 (D b o a)

/-- A chain's quantized rows. -/
def Q : FVec F S512x64 .f32 := k0_pay26 b.v0 (L b o a) (D b o a)

/-- A chain's sum of squared differences of latent rows and codewords. -/
def QS : F .f32 := k0_pay27 b.v0 (L b o a) (D b o a)

/-- A chain's reconstructed rows. -/
def R : FVec F S512x512 .f32 :=
  k0_pay28 b.v0 b.v12 b.v13 b.v15 b.v16 b.v18 b.v19 b.v21 (k0_pay13 a) (L b o a) (D b o a)

/-- A chain's sum of squared differences of reconstructed rows and observations. -/
def RS : F .f32 :=
  extractAt ![0, 0, 0] (shapeCast S1x1x1 (multiReduction .add [1, 2] S1 (shapeCast S1x512x512
    (mulf (subf (R b o a) o) (subf (R b o a) o)) shapeCasts_S512x512_S1x512x512) 0x00000000#32 reduces_S1x512x512_S1 (.inl rfl) rfl)
    shapeCasts_S1_S1x1x1) inpos_S1x1x1_p0_0_0

end Chain

variable (b : Loads Ideal) (o : FVec Ideal S512x512 .f32) (a : FVec Ideal S512x32 .f32)

/-- The loaded weights as matrices. -/
def wOf : Weights where
  enc :=
    { A i j := b.v1 (ix2 ⟨i.val, by omega⟩ j)
      B i j := b.v1 (ix2 ⟨512 + i.val, by omega⟩ j)
      b1 j := b.v3 (ix2 0 j)
      W2 i j := b.v4 (ix2 i j)
      b2 j := b.v6 (ix2 0 j)
      W3 i j := b.v7 (ix2 i j)
      b3 j := b.v9 (ix2 0 j) }
  cb k l := b.v0 (ix2 k l)
  dec :=
    { A i j := b.v12 (ix2 i j)
      B i j := b.v13 (ix2 i j)
      b1 j := b.v15 (ix2 0 j)
      W2 i j := b.v16 (ix2 i j)
      b2 j := b.v18 (ix2 0 j)
      W3 i j := b.v19 (ix2 i j)
      b3 j := b.v21 (ix2 0 j) }

/-- The loaded squares are the loaded codewords' squares. -/
def Squares : Prop := ∀ k : Fin 1024, b.v11 (ix2 0 k) = ∑ l : Fin 64, b.v0 (ix2 k l) * b.v0 (ix2 k l)

/-- Row `i` of a chain's observations. -/
def oRow (i : Fin 512) : Fin 512 → EReal := fun k => o (ix2 i k)

/-- Row `i` of a chain's actions. -/
def aRow (i : Fin 512) : Fin 32 → EReal := fun k => a (ix2 i k)

/-- The latent rows of a chain are the encoder's. -/
theorem L_apply (i : Fin 512) (l : Fin 64) : L b o a (ix2 i l) = lat (wOf b) (oRow o i) (aRow a i) l := by
  unfold L k0_pay17 k0_pay13
  pointwise
  rfl

/-- A chain's distances are the row distances, given the codewords' squares. -/
theorem D_apply (hcs : Squares b) (i : Fin 512) (k : Fin 1024) :
    D b o a (ix2 i k) = cbDist (wOf b).cb (lat (wOf b) (oRow o i) (aRow a i)) k := by
  unfold cbDist D k0_pay19 k0_pay18
  simp only [← L_apply]
  unfold L
  generalize k0_pay17 b.v1 b.v3 b.v4 b.v6 b.v7 b.v9 o a = z
  pointwise
  rw [hcs, Scalars.sum64 fun l => z (ix2 i l) * z (ix2 i l)]
  rfl

/-- A chain's tokens are the first nearest codewords' numbers. -/
theorem T_apply (hcs : Squares b) (i : Fin 512) :
    T b o a (ix1 i) = BitVec.ofNat 32 (tok (wOf b) (oRow o i) (aRow a i)).val := by
  unfold T k0_pay24
  pointwise
  simp only [D_apply b o a hcs i]
  exact Scalars.fold_minsi_eq _

/-- The one-hot product of a chain is its rows' codewords. -/
theorem quant_apply (hcs : Squares b) (i : Fin 512) (l : Fin 64) :
    k0_pay25 b.v0 (D b o a) (ix2 i l) = quant (wOf b) (oRow o i) (aRow a i) l := by
  unfold k0_pay25
  pointwise
  rw [show k0_pay24 (D b o a) (ix1 i) = _ from T_apply b o a hcs i]
  exact Scalars.onehot_sum _ fun x => b.v0 (ix2 x l)

/-- A chain's quantized rows. -/
theorem Q_apply (hcs : Squares b) (i : Fin 512) (l : Fin 64) :
    Q b o a (ix2 i l) = qst (wOf b) (oRow o i) (aRow a i) l := by
  unfold Q k0_pay26 qst
  pointwise
  rw [quant_apply b o a hcs i, L_apply]

/-- A chain's first sum is over its rows and lanes. -/
theorem QS_eq (hcs : Squares b) :
    QS b o a = ∑ i : Fin 512, ∑ l : Fin 64, latSq (wOf b) (oRow o i) (aRow a i) l := by
  unfold QS k0_pay27 latSq
  pointwise
  simp only [quant_apply b o a hcs, L_apply]

/-- A chain's reconstructed rows are the decoder's. -/
theorem R_apply (hcs : Squares b) (i : Fin 512) (j : Fin 512) :
    R b o a (ix2 i j) = recon (wOf b) (oRow o i) (aRow a i) j := by
  unfold recon
  rw [show qst (wOf b) (oRow o i) (aRow a i) = fun l => Q b o a (ix2 i l) from funext fun l => (Q_apply b o a hcs i l).symm]
  unfold R k0_pay28 k0_pay13 Q
  pointwise
  rfl

/-- A chain's second sum is over its rows and lanes. -/
theorem RS_eq (hcs : Squares b) :
    RS b o a = ∑ i : Fin 512, ∑ j : Fin 512, recSq (wOf b) (oRow o i) (aRow a i) j := by
  unfold RS recSq
  pointwise
  simp only [R_apply b o a hcs]
  rfl

/-- The partial sums' row: the chains' sums, added up, in the first two lanes. -/
theorem part_apply (p q r s : EReal) :
    k0_pay1 (F := Ideal) p q r s (ix3 0 0 0) = p + r ∧ k0_pay1 (F := Ideal) p q r s (ix3 0 0 1) = q + s := by
  unfold k0_pay1
  constructor <;> pointwise <;> simp [IntOp.cmpi, Scalar.select]

end Cert.Proof.Rows
-- ==== Proof.Block.lean ====
module

public import proofs.«01_k».proof.Proof.Rows
public import proofs.«01_k».proof.Proof.Gen.KernelIdeal.Frame
public import Idealize.ShloMosaic.Lib.Pipeline.ValueKit

/-! # What one grid point leaves in the output blocks

The five output blocks of a grid point, from its sixteen input blocks: the four chains' stores are one text at four
places, and each block is read at a row. -/

open Idealize Idealize.ShloMosaic

@[expose] public noncomputable section

set_option maxRecDepth 16384

namespace Cert.Proof.Block

open Cert.KernelIdeal Cert.KernelIdeal.Gen Cert.Proof.Spec Cert.Proof.Rows

/-- The input blocks of a grid point. -/
structure Blocks (F : FTy → Type) where
  /-- Observations. -/
  x0 : Vec F S2048x512 .f32
  /-- Actions. -/
  x1 : Vec F S2048x32 .f32
  /-- Encoder, first layer. -/
  x2 : Vec F S544x1024 .f32
  /-- Its bias. -/
  x3 : Vec F S1x1024 .f32
  /-- Second layer. -/
  x4 : Vec F S1024x1024 .f32
  /-- Its bias. -/
  x5 : Vec F S1x1024 .f32
  /-- Last layer. -/
  x6 : Vec F S1024x64 .f32
  /-- Its bias. -/
  x7 : Vec F S1x64 .f32
  /-- Codebook. -/
  x8 : Vec F S1024x64 .f32
  /-- Codewords' squares. -/
  x9 : Vec F S1x1024 .f32
  /-- Decoder, first layer. -/
  x10 : Vec F S96x1024 .f32
  /-- Its bias. -/
  x11 : Vec F S1x1024 .f32
  /-- Second layer. -/
  x12 : Vec F S1024x1024 .f32
  /-- Its bias. -/
  x13 : Vec F S1x1024 .f32
  /-- Last layer. -/
  x14 : Vec F S1024x512 .f32
  /-- Its bias. -/
  x15 : Vec F S1x512 .f32

section Text

variable {F : FTy → Type} [FloatOps F] (B : Blocks F)

/-- What the body loads for all its chains. -/
def loads : Loads F where
  v0 := View.ld B.x8 r0_0
  v1 := View.ld B.x2 r0_1
  v3 := k0_pay2 (View.ld B.x3 r0_2)
  v4 := View.ld B.x4 r0_3
  v6 := k0_pay3 (View.ld B.x5 r0_2)
  v7 := View.ld B.x6 r0_0
  v9 := k0_pay4 (View.ld B.x7 r0_4)
  v11 := k0_pay5 (View.ld B.x9 r0_2)
  v12 := View.ld B.x10 r0_5
  v13 := View.ld B.x10 r0_6
  v15 := k0_pay6 (View.ld B.x11 r0_2)
  v16 := View.ld B.x12 r0_3
  v18 := k0_pay7 (View.ld B.x13 r0_2)
  v19 := View.ld B.x14 r0_7
  v21 := k0_pay8 (View.ld B.x15 r0_8)

/-- The observations of chain 0, 1, 2 and 3. -/
def obs : Fin 4 → FVec F S512x512 .f32 :=
  ![k0_pay9 (View.ld B.x0 r0_9), k0_pay10 (View.ld B.x0 r0_10), k0_pay11 (View.ld B.x0 r0_11), k0_pay12 (View.ld B.x0 r0_12)]

/-- The actions of chain 0, 1, 2 and 3. -/
def act : Fin 4 → FVec F S512x32 .f32 :=
  ![View.ld B.x1 r0_13, View.ld B.x1 r0_14, View.ld B.x1 r0_15, View.ld B.x1 r0_16]

/-- The latent block: the four chains' latent rows, stored one below the other. -/
theorem out19_eq : out0_19 B.x0 B.x1 B.x2 B.x3 B.x4 B.x5 B.x6 B.x7 B.x8 B.x9 B.x10 B.x11 B.x12 B.x13 B.x14 B.x15 = View.canon [⟨r0_23, L (loads B) (obs B 3) (act B 3)⟩,
    ⟨r0_21, L (loads B) (obs B 2) (act B 2)⟩, ⟨r0_19, L (loads B) (obs B 1) (act B 1)⟩,
    ⟨r0_17, L (loads B) (obs B 0) (act B 0)⟩] := rfl

/-- The quantized block, likewise. -/
theorem out18_eq : out0_18 B.x0 B.x1 B.x2 B.x3 B.x4 B.x5 B.x6 B.x7 B.x8 B.x9 B.x10 B.x11 B.x12 B.x13 B.x14 B.x15 = View.canon [⟨r0_23, Q (loads B) (obs B 3) (act B 3)⟩,
    ⟨r0_21, Q (loads B) (obs B 2) (act B 2)⟩, ⟨r0_19, Q (loads B) (obs B 1) (act B 1)⟩,
    ⟨r0_17, Q (loads B) (obs B 0) (act B 0)⟩] := rfl

/-- The token block, likewise: each chain's tokens along the last axis. -/
theorem out17_eq : out0_17 B.x0 B.x1 B.x2 B.x3 B.x4 B.x5 B.x6 B.x7 B.x8 B.x9 B.x10 B.x11 B.x12 B.x13 B.x14 B.x15 = View.canon [⟨r0_24, k0_pay30 (T (loads B) (obs B 3) (act B 3))⟩,
    ⟨r0_22, k0_pay30 (T (loads B) (obs B 2) (act B 2))⟩, ⟨r0_20, k0_pay30 (T (loads B) (obs B 1) (act B 1))⟩,
    ⟨r0_18, k0_pay30 (T (loads B) (obs B 0) (act B 0))⟩] := rfl

/-- The reconstruction block, likewise. -/
theorem out16_eq : out0_16 B.x0 B.x1 B.x2 B.x3 B.x4 B.x5 B.x6 B.x7 B.x8 B.x9 B.x10 B.x11 B.x12 B.x13 B.x14 B.x15 = View.canon [⟨r0_12, R (loads B) (obs B 3) (act B 3)⟩,
    ⟨r0_11, R (loads B) (obs B 2) (act B 2)⟩, ⟨r0_10, R (loads B) (obs B 1) (act B 1)⟩,
    ⟨r0_9, R (loads B) (obs B 0) (act B 0)⟩] := rfl

/-- The partial sums' block: the chains' sums, added in order to zero. -/
theorem out20_eq : out0_20 B.x0 B.x1 B.x2 B.x3 B.x4 B.x5 B.x6 B.x7 B.x8 B.x9 B.x10 B.x11 B.x12 B.x13 B.x14 B.x15 = View.canon [⟨r0_25, k0_pay1
    (Scalar.addf (Scalar.addf (Scalar.addf (Scalar.ofBits .f32 0x00000000#32) (QS (loads B) (obs B 0) (act B 0)))
      (QS (loads B) (obs B 1) (act B 1))) (QS (loads B) (obs B 2) (act B 2)))
    (Scalar.addf (Scalar.addf (Scalar.addf (Scalar.ofBits .f32 0x00000000#32) (RS (loads B) (obs B 0) (act B 0)))
      (RS (loads B) (obs B 1) (act B 1))) (RS (loads B) (obs B 2) (act B 2)))
    (QS (loads B) (obs B 3) (act B 3)) (RS (loads B) (obs B 3) (act B 3))⟩] := rfl

end Text

variable (B : Blocks Ideal)

/-- The weights, off the input blocks. -/
def wB : Weights where
  enc :=
    { A i j := B.x2 (ix2 ⟨i.val, by omega⟩ j)
      B i j := B.x2 (ix2 ⟨512 + i.val, by omega⟩ j)
      b1 j := B.x3 (ix2 0 j)
      W2 i j := B.x4 (ix2 i j)
      b2 j := B.x5 (ix2 0 j)
      W3 i j := B.x6 (ix2 i j)
      b3 j := B.x7 (ix2 0 j) }
  cb k l := B.x8 (ix2 k l)
  dec :=
    { A i j := B.x10 (ix2 ⟨i.val, by omega⟩ j)
      B i j := B.x10 (ix2 ⟨64 + i.val, by omega⟩ j)
      b1 j := B.x11 (ix2 0 j)
      W2 i j := B.x12 (ix2 i j)
      b2 j := B.x13 (ix2 0 j)
      W3 i j := B.x14 (ix2 i j)
      b3 j := B.x15 (ix2 0 j) }

/-- The blocks' squares row holds the codewords' squares. -/
def Sq : Prop := ∀ k : Fin 1024, B.x9 (ix2 0 k) = ∑ l : Fin 64, B.x8 (ix2 k l) * B.x8 (ix2 k l)

/-- The loaded weights are the blocks'. -/
theorem wOf_loads : wOf (loads B) = wB B := by
  unfold wOf wB loads
  unfold_payloads
  congr 1
  · congr 1 <;> funext i <;> try funext j
    all_goals pointwise
  · funext i j; pointwise
  · congr 1 <;> funext i <;> try funext j
    all_goals pointwise

/-- The loaded squares are the blocks'. -/
theorem squares (h : Sq B) : Squares (loads B) := by
  intro k
  have := h k
  unfold loads
  unfold_payloads
  pointwise
  exact this

/-- Row `i` of the block's observations. -/
def o (i : Fin 2048) : Fin 512 → EReal := fun k => B.x0 (ix2 i k)

/-- Row `i` of the block's actions. -/
def a (i : Fin 2048) : Fin 32 → EReal := fun k => B.x1 (ix2 i k)

/-- Row `i` of chain `n`, in the block. -/
def at' (n : Fin 4) (i : Fin 512) : Fin 2048 := ⟨n.val * 512 + i.val, by omega⟩

/-- Chain `n`'s observations are the block's rows from `512 n` on. -/
theorem obsRow (n : Fin 4) (i : Fin 512) : oRow (obs B n) i = o B (at' n i) := by
  funext k
  unfold oRow obs o at'
  fin_cases n <;> simp <;> unfold_payloads <;> pointwise

/-- Chain `n`'s actions, likewise. -/
theorem actRow (n : Fin 4) (i : Fin 512) : aRow (act B n) i = a B (at' n i) := by
  funext k
  unfold aRow act a at'
  fin_cases n <;> simp <;> pointwise

/-- A rank-2 index by its coordinates' values. -/
theorem eq_ix2 {n k : ℕ} (x : Shape.Idx ⟨2, ![n, k]⟩) (i : Fin n) (l : Fin k) (h0 : (x 0).val = i.val) (h1 : (x 1).val = l.val) :
    x = ix2 i l := by
  funext d
  fin_cases d
  · exact Fin.ext h0
  · exact Fin.ext h1

/-- A rank-3 index by its coordinates' values. -/
theorem eq_ix3 {m n k : ℕ} (x : Shape.Idx ⟨3, ![m, n, k]⟩) (p : Fin m) (i : Fin n) (l : Fin k) (h0 : (x 0).val = p.val)
    (h1 : (x 1).val = i.val) (h2 : (x 2).val = l.val) : x = ix3 p i l := by
  funext d
  fin_cases d
  · exact Fin.ext h0
  · exact Fin.ext h1
  · exact Fin.ext h2

/-- The latent block at a row. -/
theorem out19_apply (i : Fin 2048) (l : Fin 64) :
    out0_19 B.x0 B.x1 B.x2 B.x3 B.x4 B.x5 B.x6 B.x7 B.x8 B.x9 B.x10 B.x11 B.x12 B.x13 B.x14 B.x15 (ix2 i l) = lat (wB B) (o B i) (a B i) l := by
  have key : ∀ (n : Fin 4) (x : S512x64.Idx) (r : Fin 512), (x 0).val = r.val → i.val = n.val * 512 + r.val → l.val = (x 1).val →
      L (loads B) (obs B n) (act B n) x = lat (wB B) (o B i) (a B i) l := fun n x r hr h0 h1 => by
    rw [eq_ix2 x r l hr h1.symm, L_apply, obsRow, actRow, wOf_loads, show at' n r = i from Fin.ext h0.symm]
  rw [out19_eq]
  canon_tiles x h
  · exact key 3 x ⟨_, x0_lt⟩ rfl h0 h1
  · exact key 2 x ⟨_, x0_lt⟩ rfl h0 h1
  · exact key 1 x ⟨_, x0_lt⟩ rfl h0 h1
  · exact key 0 x ⟨_, x0_lt⟩ rfl (h0.trans (by simp)) h1

/-- The quantized block at a row. -/
theorem out18_apply (hs : Sq B) (i : Fin 2048) (l : Fin 64) :
    out0_18 B.x0 B.x1 B.x2 B.x3 B.x4 B.x5 B.x6 B.x7 B.x8 B.x9 B.x10 B.x11 B.x12 B.x13 B.x14 B.x15 (ix2 i l) = qst (wB B) (o B i) (a B i) l := by
  have key : ∀ (n : Fin 4) (x : S512x64.Idx) (r : Fin 512), (x 0).val = r.val → i.val = n.val * 512 + r.val → l.val = (x 1).val →
      Q (loads B) (obs B n) (act B n) x = qst (wB B) (o B i) (a B i) l := fun n x r hr h0 h1 => by
    rw [eq_ix2 x r l hr h1.symm, Q_apply _ _ _ (squares B hs), obsRow, actRow, wOf_loads,
      show at' n r = i from Fin.ext h0.symm]
  rw [out18_eq]
  canon_tiles x h
  · exact key 3 x ⟨_, x0_lt⟩ rfl h0 h1
  · exact key 2 x ⟨_, x0_lt⟩ rfl h0 h1
  · exact key 1 x ⟨_, x0_lt⟩ rfl h0 h1
  · exact key 0 x ⟨_, x0_lt⟩ rfl (h0.trans (by simp)) h1

/-- The reconstruction block at a row. -/
theorem out16_apply (hs : Sq B) (i : Fin 2048) (j : Fin 512) :
    out0_16 B.x0 B.x1 B.x2 B.x3 B.x4 B.x5 B.x6 B.x7 B.x8 B.x9 B.x10 B.x11 B.x12 B.x13 B.x14 B.x15 (ix2 i j) = recon (wB B) (o B i) (a B i) j := by
  have key : ∀ (n : Fin 4) (x : S512x512.Idx) (r : Fin 512), (x 0).val = r.val → i.val = n.val * 512 + r.val → j.val = (x 1).val →
      R (loads B) (obs B n) (act B n) x = recon (wB B) (o B i) (a B i) j := fun n x r hr h0 h1 => by
    rw [eq_ix2 x r j hr h1.symm, R_apply _ _ _ (squares B hs), obsRow, actRow, wOf_loads,
      show at' n r = i from Fin.ext h0.symm]
  rw [out16_eq]
  canon_tiles x h
  · exact key 3 x ⟨_, x0_lt⟩ rfl h0 h1
  · exact key 2 x ⟨_, x0_lt⟩ rfl h0 h1
  · exact key 1 x ⟨_, x0_lt⟩ rfl h0 h1
  · exact key 0 x ⟨_, x0_lt⟩ rfl (h0.trans (by simp)) h1

/-- The token block at a row. -/
theorem out17_apply (hs : Sq B) (i : Fin 2048) :
    out0_17 B.x0 B.x1 B.x2 B.x3 B.x4 B.x5 B.x6 B.x7 B.x8 B.x9 B.x10 B.x11 B.x12 B.x13 B.x14 B.x15 (ix3 0 0 i) = BitVec.ofNat 32 (tok (wB B) (o B i) (a B i)).val := by
  have key : ∀ (n : Fin 4) (x : S1x1x512.Idx) (r : Fin 512), (x 2).val = r.val → i.val = n.val * 512 + r.val →
      k0_pay30 (T (loads B) (obs B n) (act B n)) x = BitVec.ofNat 32 (tok (wB B) (o B i) (a B i)).val := fun n x r hr h2 => by
    have ht : k0_pay30 (T (loads B) (obs B n) (act B n)) x = T (loads B) (obs B n) (act B n) (ix1 r) := by
      rw [eq_ix3 x 0 0 r (Nat.lt_one_iff.mp (x 0).isLt) (Nat.lt_one_iff.mp (x 1).isLt) hr]
      unfold k0_pay30
      pointwise
    rw [ht, T_apply _ _ _ (squares B hs), obsRow, actRow, wOf_loads, show at' n r = i from Fin.ext h2.symm]
  rw [out17_eq]
  canon_tiles x h
  · exact key 3 x ⟨_, x2_lt⟩ rfl h2
  · exact key 2 x ⟨_, x2_lt⟩ rfl h2
  · exact key 1 x ⟨_, x2_lt⟩ rfl h2
  · exact key 0 x ⟨_, x2_lt⟩ rfl (h2.trans (by simp))

/-- A sum over the block's rows is the sum of the four chains' sums, added in order to zero. -/
theorem sum_rows (g : Fin 2048 → EReal) :
    0 + (∑ i, g (at' 0 i)) + (∑ i, g (at' 1 i)) + (∑ i, g (at' 2 i)) + (∑ i, g (at' 3 i)) = ∑ i, g i := by
  rw [← Fin.sum_mul_add_fin 4 512 g, Fin.sum_univ_four, zero_add]
  rfl

/-- The partial sums' block in its first two lanes: the block's two sums of squares. -/
theorem out20_apply (hs : Sq B) :
    out0_20 B.x0 B.x1 B.x2 B.x3 B.x4 B.x5 B.x6 B.x7 B.x8 B.x9 B.x10 B.x11 B.x12 B.x13 B.x14 B.x15 (ix3 0 0 0) = (∑ i : Fin 2048, ∑ l : Fin 64, latSq (wB B) (o B i) (a B i) l)
    ∧ out0_20 B.x0 B.x1 B.x2 B.x3 B.x4 B.x5 B.x6 B.x7 B.x8 B.x9 B.x10 B.x11 B.x12 B.x13 B.x14 B.x15 (ix3 0 0 1) = ∑ i : Fin 2048, ∑ j : Fin 512, recSq (wB B) (o B i) (a B i) j := by
  rw [out20_eq, View.canon_unit_zero (by funext d; fin_cases d <;> rfl)]
  refine ⟨(part_apply _ _ _ _).1.trans ?_, (part_apply _ _ _ _).2.trans ?_⟩
  · simp only [QS_eq _ _ _ (squares B hs), obsRow, actRow, wOf_loads]
    rw [← sum_rows]
    pointwise
  · simp only [RS_eq _ _ _ (squares B hs), obsRow, actRow, wOf_loads]
    rw [← sum_rows]
    pointwise

end Cert.Proof.Block
-- ==== Proof.Arrays.lean ====
module

public import proofs.«01_k».proof.Proof.Block

/-! # The region's output arrays after the run -/

open Idealize Idealize.ShloMosaic Idealize.ShloMosaic.TcCoe

@[expose] public noncomputable section

set_option maxRecDepth 16384

namespace Cert.Proof.Arrays

open Cert.KernelIdeal Cert.KernelIdeal.Gen Cert.Proof.Spec Cert.Proof.Block

variable (m : (ℓ : Loc nD τ sig) → Buf (Elt Ideal) ℓ) (c : Dev nD)

/-- The arguments in a memory. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)

/-- The input blocks of grid point `t`. -/
def blocks (t : Fin cfg0.N) : Blocks Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- Which block of each windowed array a grid step reads or writes: the step's own, or the only one. -/
theorem idx : ∀ t : Fin cfg0.N, win0_0.index t = ![t.val, 0] ∧ win0_1.index t = ![t.val, 0] ∧ win0_2.index t = ![0, 0]
  ∧ win0_3.index t = ![0, 0] ∧ win0_4.index t = ![0, 0] ∧ win0_5.index t = ![0, 0] ∧ win0_6.index t = ![0, 0]
  ∧ win0_7.index t = ![0, 0] ∧ win0_8.index t = ![0, 0] ∧ win0_9.index t = ![0, 0] ∧ win0_10.index t = ![0, 0]
  ∧ win0_11.index t = ![0, 0] ∧ win0_12.index t = ![0, 0] ∧ win0_13.index t = ![0, 0] ∧ win0_14.index t = ![0, 0]
  ∧ win0_15.index t = ![0, 0] ∧ win0_16.index t = ![t.val, 0] ∧ win0_17.index t = ![t.val, 0, 0]
  ∧ win0_18.index t = ![t.val, 0] ∧ win0_19.index t = ![t.val, 0] ∧ win0_20.index t = ![t.val, 0, 0] := by
  decide +kernel

/-- The sliced operands: block `t` of the observations and of the actions is step `t`'s rows. -/
theorem sliced (t : Fin cfg0.N) :
    (∀ (i : Fin 2048) (k : Fin 512), (blocks m c t).x0 (ix2 i k) = (args m c).x0 (ix3 ⟨t.val, t.isLt⟩ i k))
    ∧ (∀ (i : Fin 2048) (k : Fin 32), (blocks m c t).x1 (ix2 i k) = (args m c).x1 (ix3 ⟨t.val, t.isLt⟩ i k)) := by
  refine ⟨?_, ?_⟩ <;> intro i k
  all_goals
    simp only [blocks, args]
    blk_simp [iblk, idx t]
    simp only [V, V0, hostOps0, List.flatten_cons, List.flatten_nil, List.append_nil, List.cons_append, List.nil_append]
    after_results_simp
    pointwise
    blk_ext [idx t]

/-- The weight matrices and the codebook are held whole. -/
theorem matrices (t : Fin cfg0.N) :
    (∀ i j, (blocks m c t).x2 (ix2 i j) = (args m c).x2 (ix2 i j))
    ∧ (∀ i j, (blocks m c t).x4 (ix2 i j) = (args m c).x4 (ix2 i j))
    ∧ (∀ i j, (blocks m c t).x6 (ix2 i j) = (args m c).x6 (ix2 i j))
    ∧ (∀ i j, (blocks m c t).x8 (ix2 i j) = (args m c).x8 (ix2 i j))
    ∧ (∀ i j, (blocks m c t).x10 (ix2 i j) = (args m c).x9 (ix2 i j))
    ∧ (∀ i j, (blocks m c t).x12 (ix2 i j) = (args m c).x11 (ix2 i j))
    ∧ (∀ i j, (blocks m c t).x14 (ix2 i j) = (args m c).x13 (ix2 i j)) := by
  refine ⟨?_, ?_, ?_, ?_, ?_, ?_, ?_⟩ <;> intro i j <;> simp only [blocks, args] <;> blk_ext [iblk, V, idx t]

/-- The bias rows are the bias vectors. -/
theorem biases (t : Fin cfg0.N) :
    (∀ j, (blocks m c t).x3 (ix2 0 j) = (args m c).x3 (ix1 j))
    ∧ (∀ j, (blocks m c t).x5 (ix2 0 j) = (args m c).x5 (ix1 j))
    ∧ (∀ j, (blocks m c t).x7 (ix2 0 j) = (args m c).x7 (ix1 j))
    ∧ (∀ j, (blocks m c t).x11 (ix2 0 j) = (args m c).x10 (ix1 j))
    ∧ (∀ j, (blocks m c t).x13 (ix2 0 j) = (args m c).x12 (ix1 j))
    ∧ (∀ j, (blocks m c t).x15 (ix2 0 j) = (args m c).x14 (ix1 j)) := by
  refine ⟨?_, ?_, ?_, ?_, ?_, ?_⟩ <;> intro j
  all_goals
    simp only [blocks, args]
    blk_simp [iblk, idx t]
    simp only [V, V0, hostOps0, List.flatten_cons, List.flatten_nil, List.append_nil, List.cons_append, List.nil_append]
    after_results_simp
    pointwise
    blk_ext [idx t]

/-- The row of codeword squares, when the region starts. -/
theorem V_squares : V m c main_call0_v7 = shapeCast S1x1024 (Host.reduceAdd (mulf (args m c).x8 (args m c).x8)
    (constant (F := Ideal) S_ .f32 0x00000000#32) reducesTo_S1024x64_S1024_d1 h_S_) shapeCasts_S1024_S1x1024 := by
  simp only [V, V0, hostOps0, List.flatten_cons, List.flatten_nil, List.append_nil, List.cons_append, List.nil_append]
  after_results
  rfl

/-- The row of codeword squares, read at a codeword. -/
theorem squares_apply (k : Fin 1024) :
    shapeCast S1x1024 (Host.reduceAdd (mulf (args m c).x8 (args m c).x8)
      (constant (F := Ideal) S_ .f32 0x00000000#32) reducesTo_S1024x64_S1024_d1 h_S_) shapeCasts_S1024_S1x1024 (ix2 0 k)
    = ∑ l : Fin 64, (args m c).x8 (ix2 k l) * (args m c).x8 (ix2 k l) := by
  pointwise

/-- The block of codeword squares holds the codewords' squares. -/
theorem squares (t : Fin cfg0.N) : Sq (blocks m c t) := by
  intro k
  have h : (blocks m c t).x9 (ix2 0 k) = V m c main_call0_v7 (ix2 0 k) := by
    simp only [blocks]
    blk_ext [iblk, idx t]
  rw [h, V_squares, squares_apply]
  simp only [(matrices m c t).2.2.2.1]

/-- The weights in the blocks are the arguments'. -/
theorem weights (t : Fin cfg0.N) : wB (blocks m c t) = (args m c).w := by
  obtain ⟨h2, h4, h6, h8, h10, h12, h14⟩ := matrices m c t
  obtain ⟨h3, h5, h7, h11, h13, h15⟩ := biases m c t
  simp only [wB, Args.w, h2, h3, h4, h5, h6, h7, h8, h10, h11, h12, h13, h14, h15]

/-- Row `i` of block `t` of the observations and of the actions. -/
theorem rows (t : Fin cfg0.N) (i : Fin 2048) :
    o (blocks m c t) i = (args m c).o ⟨t.val, t.isLt⟩ i ∧ a (blocks m c t) i = (args m c).a ⟨t.val, t.isLt⟩ i :=
  ⟨funext fun k => (sliced m c t).1 i k, funext fun k => (sliced m c t).2 i k⟩

end Cert.Proof.Arrays
-- ==== Proof.Outputs.lean ====
module

public import proofs.«01_k».proof.Proof.Arrays

/-! # What the region's output arrays hold after the run -/

open Idealize Idealize.ShloMosaic Idealize.ShloMosaic.TcCoe

@[expose] public noncomputable section

set_option maxRecDepth 16384

namespace Cert.Proof.Arrays

open Cert.KernelIdeal Cert.KernelIdeal.Gen Cert.Proof.Spec Cert.Proof.Block

variable (m : (ℓ : Loc nD τ sig) → Buf (Elt Ideal) ℓ) (c : Dev nD)

/-- Row `i` of batch entry `t`, flat. -/
def flat (t : Fin 8) (i : Fin 2048) : Fin 16384 := ⟨t.val * 2048 + i.val, by omega⟩

/-- Every point writes its block of each output back. -/
theorem flush : ∀ t : Fin cfg0.N, win0_16.flush t = true ∧ win0_17.flush t = true ∧ win0_18.flush t = true
    ∧ win0_19.flush t = true ∧ win0_20.flush t = true := by
  decide +kernel

/-- Different points write different blocks of each output. -/
theorem inj : ∀ t t' : Fin cfg0.N, (win0_16.index t = win0_16.index t' → t = t') ∧ (win0_17.index t = win0_17.index t' → t = t')
    ∧ (win0_18.index t = win0_18.index t' → t = t') ∧ (win0_19.index t = win0_19.index t' → t = t')
    ∧ (win0_20.index t = win0_20.index t' → t = t') := by
  decide +kernel

/-- The reconstruction block the body leaves. -/
def blk16 (B : Blocks Ideal) : S2048x512.Idx → EReal := out0_16 B.x0 B.x1 B.x2 B.x3 B.x4 B.x5 B.x6 B.x7 B.x8 B.x9 B.x10 B.x11 B.x12 B.x13 B.x14 B.x15

/-- The reconstruction array after the run. -/
def res16 : S16384x512.Idx → EReal := (dats m 0 c).arrAt 16 cfg0.N

/-- Under point `t`'s block it holds what the body left there. -/
theorem res16_emb (t : Fin cfg0.N) (y : S2048x512.Idx) : res16 m c ((win0_16.blk t).view.emb y) = blk16 (blocks m c t) y := by
  refine ((dats m 0 c).arrAt_emb_eq_flushed 16 (Pipeline.Window.hdisj_of_index_inj win0_16 fun t t' _ _ => (inj t t').1) t (flush t).1 y).trans ?_
  refine Eq.trans (b := (dats m 0 c).after 16 t y) rfl (congrFun ?_ y)
  dsimp only [blk16, blocks]
  exact after0_16 m c t

/-- The token block the body leaves. -/
def blk17 (B : Blocks Ideal) : S1x1x2048.Idx → BitVec 32 := out0_17 B.x0 B.x1 B.x2 B.x3 B.x4 B.x5 B.x6 B.x7 B.x8 B.x9 B.x10 B.x11 B.x12 B.x13 B.x14 B.x15

/-- The token array after the run. -/
def res17 : S8x1x2048.Idx → BitVec 32 := (dats m 0 c).arrAt 17 cfg0.N

/-- Under point `t`'s block it holds what the body left there. -/
theorem res17_emb (t : Fin cfg0.N) (y : S1x1x2048.Idx) : res17 m c ((win0_17.blk t).view.emb y) = blk17 (blocks m c t) y := by
  refine ((dats m 0 c).arrAt_emb_eq_flushed 17 (Pipeline.Window.hdisj_of_index_inj win0_17 fun t t' _ _ => (inj t t').2.1) t (flush t).2.1 y).trans ?_
  refine Eq.trans (b := (dats m 0 c).after 17 t y) rfl (congrFun ?_ y)
  dsimp only [blk17, blocks]
  exact after0_17 m c t

/-- The quantized block the body leaves. -/
def blk18 (B : Blocks Ideal) : S2048x64.Idx → EReal := out0_18 B.x0 B.x1 B.x2 B.x3 B.x4 B.x5 B.x6 B.x7 B.x8 B.x9 B.x10 B.x11 B.x12 B.x13 B.x14 B.x15

/-- The quantized array after the run. -/
def res18 : S16384x64.Idx → EReal := (dats m 0 c).arrAt 18 cfg0.N

/-- Under point `t`'s block it holds what the body left there. -/
theorem res18_emb (t : Fin cfg0.N) (y : S2048x64.Idx) : res18 m c ((win0_18.blk t).view.emb y) = blk18 (blocks m c t) y := by
  refine ((dats m 0 c).arrAt_emb_eq_flushed 18 (Pipeline.Window.hdisj_of_index_inj win0_18 fun t t' _ _ => (inj t t').2.2.1) t (flush t).2.2.1 y).trans ?_
  refine Eq.trans (b := (dats m 0 c).after 18 t y) rfl (congrFun ?_ y)
  dsimp only [blk18, blocks]
  exact after0_18 m c t

/-- The latent block the body leaves. -/
def blk19 (B : Blocks Ideal) : S2048x64.Idx → EReal := out0_19 B.x0 B.x1 B.x2 B.x3 B.x4 B.x5 B.x6 B.x7 B.x8 B.x9 B.x10 B.x11 B.x12 B.x13 B.x14 B.x15

/-- The latent array after the run. -/
def res19 : S16384x64.Idx → EReal := (dats m 0 c).arrAt 19 cfg0.N

/-- Under point `t`'s block it holds what the body left there. -/
theorem res19_emb (t : Fin cfg0.N) (y : S2048x64.Idx) : res19 m c ((win0_19.blk t).view.emb y) = blk19 (blocks m c t) y := by
  refine ((dats m 0 c).arrAt_emb_eq_flushed 19 (Pipeline.Window.hdisj_of_index_inj win0_19 fun t t' _ _ => (inj t t').2.2.2.1) t (flush t).2.2.2.1 y).trans ?_
  refine Eq.trans (b := (dats m 0 c).after 19 t y) rfl (congrFun ?_ y)
  dsimp only [blk19, blocks]
  exact after0_19 m c t

/-- The partial-sum block the body leaves. -/
def blk20 (B : Blocks Ideal) : S1x1x128.Idx → EReal := out0_20 B.x0 B.x1 B.x2 B.x3 B.x4 B.x5 B.x6 B.x7 B.x8 B.x9 B.x10 B.x11 B.x12 B.x13 B.x14 B.x15

/-- The partial-sum array after the run. -/
def res20 : S8x1x128.Idx → EReal := (dats m 0 c).arrAt 20 cfg0.N

/-- Under point `t`'s block it holds what the body left there. -/
theorem res20_emb (t : Fin cfg0.N) (y : S1x1x128.Idx) : res20 m c ((win0_20.blk t).view.emb y) = blk20 (blocks m c t) y := by
  refine ((dats m 0 c).arrAt_emb_eq_flushed 20 (Pipeline.Window.hdisj_of_index_inj win0_20 fun t t' _ _ => (inj t t').2.2.2.2) t (flush t).2.2.2.2 y).trans ?_
  refine Eq.trans (b := (dats m 0 c).after 20 t y) rfl (congrFun ?_ y)
  dsimp only [blk20, blocks]
  exact after0_20 m c t

variable (t : Fin cfg0.N) (i : Fin 2048)

/-- The latent rows. -/
theorem res19_apply (l : Fin 64) : res19 m c (ix2 (flat ⟨t.val, t.isLt⟩ i) l) = lat (args m c).w ((args m c).o ⟨t.val, t.isLt⟩ i) ((args m c).a ⟨t.val, t.isLt⟩ i) l := by
  have e : (win0_19.blk t).view.emb (ix2 i l) = (ix2 (flat ⟨t.val, t.isLt⟩ i) l : S16384x64.Idx) := by unfold flat; blk_ext [idx t]
  refine (congrArg (res19 m c) e.symm).trans ((res19_emb m c t _).trans ?_)
  rw [blk19, out19_apply, weights, (rows m c t i).1, (rows m c t i).2]

/-- The quantized rows. -/
theorem res18_apply (l : Fin 64) : res18 m c (ix2 (flat ⟨t.val, t.isLt⟩ i) l) = qst (args m c).w ((args m c).o ⟨t.val, t.isLt⟩ i) ((args m c).a ⟨t.val, t.isLt⟩ i) l := by
  have e : (win0_18.blk t).view.emb (ix2 i l) = (ix2 (flat ⟨t.val, t.isLt⟩ i) l : S16384x64.Idx) := by unfold flat; blk_ext [idx t]
  refine (congrArg (res18 m c) e.symm).trans ((res18_emb m c t _).trans ?_)
  rw [blk18, out18_apply _ (squares m c t), weights, (rows m c t i).1, (rows m c t i).2]

/-- The reconstructed rows. -/
theorem res16_apply (j : Fin 512) : res16 m c (ix2 (flat ⟨t.val, t.isLt⟩ i) j) = recon (args m c).w ((args m c).o ⟨t.val, t.isLt⟩ i) ((args m c).a ⟨t.val, t.isLt⟩ i) j := by
  have e : (win0_16.blk t).view.emb (ix2 i j) = (ix2 (flat ⟨t.val, t.isLt⟩ i) j : S16384x512.Idx) := by unfold flat; blk_ext [idx t]
  refine (congrArg (res16 m c) e.symm).trans ((res16_emb m c t _).trans ?_)
  rw [blk16, out16_apply _ (squares m c t), weights, (rows m c t i).1, (rows m c t i).2]

/-- The tokens. -/
theorem res17_apply : res17 m c (ix3 ⟨t.val, t.isLt⟩ 0 i) = BitVec.ofNat 32 (tok (args m c).w ((args m c).o ⟨t.val, t.isLt⟩ i) ((args m c).a ⟨t.val, t.isLt⟩ i)).val := by
  have e : (win0_17.blk t).view.emb (ix3 0 0 i) = (ix3 ⟨t.val, t.isLt⟩ 0 i : S8x1x2048.Idx) := by blk_ext [idx t]
  refine (congrArg (res17 m c) e.symm).trans ((res17_emb m c t _).trans ?_)
  rw [blk17, out17_apply _ (squares m c t), weights, (rows m c t i).1, (rows m c t i).2]

/-- The sums of the batch entry's squares: lane 0 the latents', lane 1 the reconstruction's. -/
theorem res20_apply :
    res20 m c (ix3 ⟨t.val, t.isLt⟩ 0 0) = (∑ i, ∑ l, latSq (args m c).w ((args m c).o ⟨t.val, t.isLt⟩ i) ((args m c).a ⟨t.val, t.isLt⟩ i) l)
    ∧ res20 m c (ix3 ⟨t.val, t.isLt⟩ 0 1) = ∑ i, ∑ j, recSq (args m c).w ((args m c).o ⟨t.val, t.isLt⟩ i) ((args m c).a ⟨t.val, t.isLt⟩ i) j := by
  have e (k : Fin 128) : (win0_20.blk t).view.emb (ix3 0 0 k) = (ix3 ⟨t.val, t.isLt⟩ 0 k : S8x1x128.Idx) := by blk_ext [idx t]
  have h := out20_apply (blocks m c t) (squares m c t)
  rw [← blk20] at h
  obtain ⟨h0, h1⟩ := h
  simp only [weights, (rows m c t _).1, (rows m c t _).2] at h0 h1
  exact ⟨(congrArg (res20 m c) (e 0).symm).trans ((res20_emb m c t _).trans h0),
    (congrArg (res20 m c) (e 1).symm).trans ((res20_emb m c t _).trans h1)⟩

end Cert.Proof.Arrays
-- ==== Proof.Tail.lean ====
module

public import proofs.«01_k».proof.Proof.Outputs

/-! # What the kernel's results hold after the host operations that follow the region -/

open Idealize Idealize.ShloMosaic Idealize.ShloMosaic.TcCoe

@[expose] public noncomputable section

set_option maxRecDepth 16384

namespace Cert.Proof.Arrays

open Cert.KernelIdeal Cert.KernelIdeal.Gen Cert.Proof.Spec Cert.Proof.Block

variable (m : (ℓ : Loc nD τ sig) → Buf (Elt Ideal) ℓ) (c : Dev nD)

/-- The buffers when the region has ended. -/
def W : Valuation τ sig (Elt Ideal) :=
  Pipeline.withArrays cfg0.spec c (V0 m c) fun w => (dats m 0 c).arrAt w cfg0.N

/-- There an output's buffer holds the array of its window. -/
theorem W_arr (w : Fin 21) : W m c (Proc.devRef .tc (Pipeline.arrRef spec0 w)) = (dats m 0 c).arrAt w cfg0.N :=
  Pipeline.withArrays_arr spec0 winFacts0.arr_inj c (V0 m c) (fun w => (dats m 0 c).arrAt w cfg0.N) w

/-- The last operations: the results from the region's arrays. -/
def out (b : Ref sig .tc) : Buf (Elt Ideal) ((c.tc : Thread nD τ).loc b) :=
  Pipeline.afterTail₀ cfgs (dats m) 0 (V0 m) [hostOps1] c b

/-- A buffer's final contents: the host operations after the call, folded over what the call leaves. -/
theorem out_def (b : Ref sig .tc) : out m c b = StableHlo.after hostOps1 (W m c) (Proc.devRef .tc b) := rfl

/-- The sum over the batch of lane `k` of the partial sums. -/
def laneSum (x : S8x1x128.Idx → EReal) (k : Fin 2) : FVec Ideal S_ .f32 :=
  Host.reduceAdd (shapeCast S8 (![extractStridedSlice S8x1 ![0, 0] (shapeCast S8x128 x shapeCasts_S8x1x128_S8x128) slices_S8x128_S8x1_0_0,
    extractStridedSlice S8x1 ![0, 1] (shapeCast S8x128 x shapeCasts_S8x1x128_S8x128) slices_S8x128_S8x1_0_1] k) shapeCasts_S8x1_S8)
    (constant S_ .f32 0x00000000#32) reducesTo_S8_S_d0 h_S_

/-- Lane 0 sums to all the latents' squares, lane 1 to all the reconstruction's. -/
theorem laneSum_eq : laneSum (res20 m c) 0 = (fun _ => (args m c).latSum) ∧ laneSum (res20 m c) 1 = fun _ => (args m c).recSum := by
  refine ⟨?_, ?_⟩ <;> funext z <;> simp only [laneSum, Matrix.cons_val_zero, Matrix.cons_val_one] <;> pointwise
  · exact Finset.sum_congr rfl fun t _ => (res20_apply m c t).1
  · exact Finset.sum_congr rfl fun t _ => (res20_apply m c t).2

/-- The four array results, reshaped from the region's arrays. -/
theorem out_arrays :
    out m c main_v0_0 = shapeCast S8x2048x512 (res16 m c) shapeCasts_S16384x512_S8x2048x512
    ∧ out m c main_v0_1 = shapeCast S8x2048 (res17 m c) shapeCasts_S8x1x2048_S8x2048
    ∧ out m c main_v0_2 = shapeCast S8x2048x64 (res18 m c) shapeCasts_S16384x64_S8x2048x64
    ∧ out m c main_v0_3 = shapeCast S8x2048x64 (res19 m c) shapeCasts_S16384x64_S8x2048x64 := by
  rw [show res16 m c = W m c (Proc.devRef .tc main_call0_v11_0) from (W_arr m c 16).symm,
    show res17 m c = W m c (Proc.devRef .tc main_call0_v11_1) from (W_arr m c 17).symm,
    show res18 m c = W m c (Proc.devRef .tc main_call0_v11_2) from (W_arr m c 18).symm,
    show res19 m c = W m c (Proc.devRef .tc main_call0_v11_3) from (W_arr m c 19).symm]
  simp only [out_def, hostOps1]
  refine ⟨?_, ?_, ?_, ?_⟩ <;> after_results <;> rfl

/-- The reconstructed observations. -/
theorem out0 : out m c main_v0_0 = (args m c).reconArr := by
  rw [(out_arrays m c).1]
  funext z
  obtain ⟨t, i, j, rfl⟩ : ∃ t i j, z = ix3 t i j := ⟨z 0, z 1, z 2, eq_ix3 z _ _ _ rfl rfl rfl⟩
  pointwise
  exact res16_apply m c t i j

/-- The tokens. -/
theorem out1 : out m c main_v0_1 = (args m c).tokArr := by
  rw [(out_arrays m c).2.1]
  funext z
  obtain ⟨t, i, rfl⟩ : ∃ t i, z = ix2 t i := ⟨z 0, z 1, eq_ix2 z _ _ rfl rfl⟩
  pointwise
  exact res17_apply m c t i

/-- The quantized rows. -/
theorem out2 : out m c main_v0_2 = (args m c).qstArr := by
  rw [(out_arrays m c).2.2.1]
  funext z
  obtain ⟨t, i, l, rfl⟩ : ∃ t i l, z = ix3 t i l := ⟨z 0, z 1, z 2, eq_ix3 z _ _ _ rfl rfl rfl⟩
  pointwise
  exact res18_apply m c t i l

/-- The latent rows. -/
theorem out3 : out m c main_v0_3 = (args m c).latArr := by
  rw [(out_arrays m c).2.2.2]
  funext z
  obtain ⟨t, i, l, rfl⟩ : ∃ t i l, z = ix3 t i l := ⟨z 0, z 1, z 2, eq_ix3 z _ _ _ rfl rfl rfl⟩
  pointwise
  exact res19_apply m c t i l

/-- The five losses. -/
theorem out_losses : out m c main_v0_4 = (args m c).reconLoss ∧ out m c main_v0_5 = (args m c).commitLoss
    ∧ out m c main_v0_6 = (args m c).codebookLoss ∧ out m c main_v0_7 = (args m c).quantLoss
    ∧ out m c main_v0_8 = (args m c).totalLoss := by
  unfold Args.totalLoss Args.quantLoss Args.commitLoss Args.codebookLoss Args.reconLoss
  rw [← (laneSum_eq m c).1, ← (laneSum_eq m c).2,
    show res20 m c = W m c (Proc.devRef .tc main_call0_v11_4) from (W_arr m c 20).symm]
  simp only [out_def, hostOps1]
  refine ⟨?_, ?_, ?_, ?_, ?_⟩ <;> after_results <;> rfl

/-- The kernel's run: its nine results, and its arguments as they were. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v0_0) = (args m c).reconArr
    ∧ r.2.mem ((c.tc : Thread nD τ).loc main_v0_1) = (args m c).tokArr
    ∧ r.2.mem ((c.tc : Thread nD τ).loc main_v0_2) = (args m c).qstArr
    ∧ r.2.mem ((c.tc : Thread nD τ).loc main_v0_3) = (args m c).latArr
    ∧ r.2.mem ((c.tc : Thread nD τ).loc main_v0_4) = (args m c).reconLoss
    ∧ r.2.mem ((c.tc : Thread nD τ).loc main_v0_5) = (args m c).commitLoss
    ∧ r.2.mem ((c.tc : Thread nD τ).loc main_v0_6) = (args m c).codebookLoss
    ∧ r.2.mem ((c.tc : Thread nD τ).loc main_v0_7) = (args m c).quantLoss
    ∧ r.2.mem ((c.tc : Thread nD τ).loc main_v0_8) = (args m c).totalLoss := by
  refine (θ_run defs _ _).mono (fun r h c => ?_) (run_main m g)
  obtain ⟨h4, h5, h6, h7, h8⟩ := out_losses m c
  exact ⟨(h.rest_eq c main_v0_0 (by decide)).trans (out0 m c), (h.rest_eq c main_v0_1 (by decide)).trans (out1 m c),
    (h.rest_eq c main_v0_2 (by decide)).trans (out2 m c), (h.rest_eq c main_v0_3 (by decide)).trans (out3 m c),
    (h.rest_eq c main_v0_4 (by decide)).trans h4, (h.rest_eq c main_v0_5 (by decide)).trans h5,
    (h.rest_eq c main_v0_6 (by decide)).trans h6, (h.rest_eq c main_v0_7 (by decide)).trans h7,
    (h.rest_eq c main_v0_8 (by decide)).trans h8⟩

end Cert.Proof.Arrays
-- ==== Proof.RefRun.lean ====
module

public import proofs.«01_k».proof.Proof.Gen.ReferenceIdeal
public import Idealize.ShloMosaic.Lib.StableHlo.Run
public import Idealize.ShloMosaic.Lib.StableHlo.RunRead
public import Idealize.ShloMosaic.Lib.Pipeline.Frame

/-! # The reference program as a straight line of operations, cut into seven stretches -/

open Idealize Idealize.ShloMosaic Idealize.ShloMosaic.TcCoe Idealize.ShloMosaic.StableHlo Idealize.SL.Sem

@[expose] public noncomputable section

namespace Cert.Proof.Ref

open Cert.ReferenceIdeal Cert.ReferenceIdeal.Gen

variable {F : FTy → Type} [FloatOps F]

/-- The encoder: from the rows and the condition to the latents. -/
abbrev enc : List (HloOp τ sig (Elt F)) :=
  [ reshape main_arg0 main_v0 rfl shapeCasts_S8x2048x512_S16384x512,
    reshape main_arg1 main_v1 rfl shapeCasts_S8x2048x32_S16384x32,
    binary main_v0 main_v1 main_v2 (fun a b => concatenate S16384x544 1 [⟨S16384x512, a⟩, ⟨S16384x32, b⟩] concatenates_S16384x512_S16384x32_S16384x544_d1),
    binary main_v2 main_arg2 main_v3 (fun l r => Host.dotGeneral dot_S16384x544_S544x1024_S16384x1024_1_0_0_1_n_n none l r),
    unary main_arg3 main_v4 (broadcastInDim S1x1024 ![1] bcast_S1024_S1x1024_1),
    unary main_v4 main_v5 (broadcastInDim S16384x1024 ![0, 1] bcast_S1x1024_S16384x1024_0_1),
    binary main_v3 main_v5 main_v6 addf,
    TRef.nullary main_call0.cst (constant S_ .f32 0x00000000#32),
    TRef.unary main_call0.cst main_call0.v0 (broadcastInDim S16384x1024 ![] bcast_S_S16384x1024),
    TRef.binary (.of main_v6) main_call0.v0 main_call0.v1 maximumf,
    binary main_v7 main_arg4 main_v8 (fun l r => Host.dotGeneral dot_S16384x1024_S1024x1024_S16384x1024_1_0_0_1_n_n none l r),
    unary main_arg5 main_v9 (broadcastInDim S1x1024 ![1] bcast_S1024_S1x1024_1),
    unary main_v9 main_v10 (broadcastInDim S16384x1024 ![0, 1] bcast_S1x1024_S16384x1024_0_1),
    binary main_v8 main_v10 main_v11 addf,
    TRef.nullary main_call1.cst (constant S_ .f32 0x00000000#32),
    TRef.unary main_call1.cst main_call1.v0 (broadcastInDim S16384x1024 ![] bcast_S_S16384x1024),
    TRef.binary (.of main_v11) main_call1.v0 main_call1.v1 maximumf,
    binary main_v12 main_arg6 main_v13 (fun l r => Host.dotGeneral dot_S16384x1024_S1024x64_S16384x64_1_0_0_1_n_n none l r),
    unary main_arg7 main_v14 (broadcastInDim S1x64 ![1] bcast_S64_S1x64_1),
    unary main_v14 main_v15 (broadcastInDim S16384x64 ![0, 1] bcast_S1x64_S16384x64_0_1),
    binary main_v13 main_v15 main_v16 addf,
    reshape main_v16 main_v17 rfl shapeCasts_S16384x64_S8x2048x64 ]

/-- The squared distance of every latent row to every codebook row. -/
abbrev dist : List (HloOp τ sig (Elt F)) :=
  [ reshape main_v17 main_v18 rfl shapeCasts_S8x2048x64_S16384x64,
    binary main_v18 main_v18 main_v19 mulf,
    nullary main_cst (constant S_ .f32 0x00000000#32),
    binary main_v19 main_cst main_v20 (fun x v => Host.reduceAdd x v reducesTo_S16384x64_S16384_d1 h_S_),
    unary main_v20 main_v21 (broadcastInDim S16384x1 ![0] bcast_S16384_S16384x1_0),
    unary main_arg8 main_v22 (transpose S64x1024 [1, 0] · transposes_S1024x64_S64x1024_1_0),
    binary main_v18 main_v22 main_v23 (fun l r => Host.dotGeneral dot_S16384x64_S64x1024_S16384x1024_1_0_0_1_n_n none l r),
    nullary main_cst_0 (constant S_ .f32 0x40000000#32),
    unary main_cst_0 main_v24 (broadcastInDim S16384x1024 ![] bcast_S_S16384x1024),
    binary main_v24 main_v23 main_v25 mulf,
    unary main_v21 main_v26 (broadcastInDim S16384x1024 ![0, 1] bcast_S16384x1_S16384x1024_0_1),
    binary main_v26 main_v25 main_v27 subf,
    binary main_arg8 main_arg8 main_v28 mulf,
    nullary main_cst_1 (constant S_ .f32 0x00000000#32),
    binary main_v28 main_cst_1 main_v29 (fun x v => Host.reduceAdd x v reducesTo_S1024x64_S1024_d1 h_S_),
    unary main_v29 main_v30 (broadcastInDim S1x1024 ![1] bcast_S1024_S1x1024_1),
    unary main_v30 main_v31 (broadcastInDim S16384x1024 ![0, 1] bcast_S1x1024_S16384x1024_0_1),
    binary main_v27 main_v31 main_v32 addf ]

/-- The position of the nearest codebook row. -/
abbrev pick : List (HloOp τ sig (Elt F)) :=
  [ TRef.nullary main_call2.v0 (iotaInDim S16384x1024 32 1),
    TRef.nullary main_call2.cst (constant S_ .f32 0x7F800000#32),
    TRef.nullary main_call2.c (constantI S_ 32 0#32),
    TRef.quaternary (.of main_v32) main_call2.v0 main_call2.cst main_call2.c main_call2.v1_0 (fun x y u v j => (Host.argReduce reducer_argmin_f32_i32 x y u v reducesTo_S16384x1024_S16384_d1 h_S_ j).1),
    TRef.quaternary (.of main_v32) main_call2.v0 main_call2.cst main_call2.c main_call2.v1_1 (fun x y u v j => (Host.argReduce reducer_argmin_f32_i32 x y u v reducesTo_S16384x1024_S16384_d1 h_S_ j).2) ]

/-- The look-up of the chosen codebook rows. -/
abbrev look : List (HloOp τ sig (Elt F)) :=
  [ TRef.nullary main_call3.c (constantI S_ 32 0#32),
    TRef.unary main_call3.c main_call3.v0 (broadcastInDim S16384 ![] bcast_S_S16384),
    TRef.binary (.of main_v33) main_call3.v0 main_call3.v1 (cmpi .slt),
    TRef.nullary main_call3.c_0 (constantI S_ 32 1024#32),
    TRef.unary main_call3.c_0 main_call3.v2 (broadcastInDim S16384 ![] bcast_S_S16384),
    TRef.binary (.of main_v33) main_call3.v2 main_call3.v3 addi,
    TRef.ternary main_call3.v1 main_call3.v3 (.of main_v33) main_call3.call0.v0 select,
    TRef.unary main_call3.call0.v0 main_call3.v5 (broadcastInDim S16384x1 ![0] bcast_S16384_S16384x1_0),
    TRef.nullary main_call3.c_1 (constantI S1 32 1023#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg8) main_call3.v5 main_call3.v13 (fun x i => Host.gather gather_S1024x64_S16384x1_S16384x64_1_0_n_n_0_1_164 x i),
    TRef.unary main_call3.v12 main_call3.v14 (broadcastInDim S16384x64 ![0] bcast_S16384_S16384x64_0),
    TRef.nullary main_call3.cst (constant S_ .f32 0x7FC00000#32),
    TRef.unary main_call3.cst main_call3.v15 (broadcastInDim S16384x64 ![] bcast_S_S16384x64),
    TRef.ternary main_call3.v14 main_call3.v13 main_call3.v15 main_call3.v16 select ]

/-- The quantized rows, their tokens and their two losses. -/
abbrev vq : List (HloOp τ sig (Elt F)) :=
  [ reshape main_v34 main_v35 rfl shapeCasts_S16384x64_S8x2048x64,
    reshape main_v33 main_v36 rfl shapeCasts_S16384_S8x2048,
    binary main_v17 main_v35 main_v37 subf,
    binary main_v37 main_v37 main_v38 mulf,
    nullary main_cst_2 (constant S_ .f32 0x00000000#32),
    binary main_v38 main_cst_2 main_v39 (fun x v => Host.reduceAdd x v reducesTo_S8x2048x64_S_d0_1_2 h_S_),
    nullary main_cst_3 (constant S_ .f32 0x49800000#32),
    binary main_v39 main_cst_3 main_v40 Host.divf,
    nullary main_cst_4 (constant S_ .f32 0x3E800000#32),
    binary main_v40 main_cst_4 main_v41 mulf,
    binary main_v35 main_v17 main_v42 subf,
    binary main_v42 main_v42 main_v43 mulf,
    nullary main_cst_5 (constant S_ .f32 0x00000000#32),
    binary main_v43 main_cst_5 main_v44 (fun x v => Host.reduceAdd x v reducesTo_S8x2048x64_S_d0_1_2 h_S_),
    nullary main_cst_6 (constant S_ .f32 0x49800000#32),
    binary main_v44 main_cst_6 main_v45 Host.divf,
    binary main_v35 main_v17 main_v46 subf,
    binary main_v17 main_v46 main_v47 addf ]

/-- The decoder: from the quantized rows and the condition to the reconstruction. -/
abbrev dec : List (HloOp τ sig (Elt F)) :=
  [ reshape main_v47 main_v48 rfl shapeCasts_S8x2048x64_S16384x64,
    binary main_v48 main_v1 main_v49 (fun a b => concatenate S16384x96 1 [⟨S16384x64, a⟩, ⟨S16384x32, b⟩] concatenates_S16384x64_S16384x32_S16384x96_d1),
    binary main_v49 main_arg9 main_v50 (fun l r => Host.dotGeneral dot_S16384x96_S96x1024_S16384x1024_1_0_0_1_n_n none l r),
    unary main_arg10 main_v51 (broadcastInDim S1x1024 ![1] bcast_S1024_S1x1024_1),
    unary main_v51 main_v52 (broadcastInDim S16384x1024 ![0, 1] bcast_S1x1024_S16384x1024_0_1),
    binary main_v50 main_v52 main_v53 addf,
    TRef.nullary main_call4.cst (constant S_ .f32 0x00000000#32),
    TRef.unary main_call4.cst main_call4.v0 (broadcastInDim S16384x1024 ![] bcast_S_S16384x1024),
    TRef.binary (.of main_v53) main_call4.v0 main_call4.v1 maximumf,
    binary main_v54 main_arg11 main_v55 (fun l r => Host.dotGeneral dot_S16384x1024_S1024x1024_S16384x1024_1_0_0_1_n_n none l r),
    unary main_arg12 main_v56 (broadcastInDim S1x1024 ![1] bcast_S1024_S1x1024_1),
    unary main_v56 main_v57 (broadcastInDim S16384x1024 ![0, 1] bcast_S1x1024_S16384x1024_0_1),
    binary main_v55 main_v57 main_v58 addf,
    TRef.nullary main_call5.cst (constant S_ .f32 0x00000000#32),
    TRef.unary main_call5.cst main_call5.v0 (broadcastInDim S16384x1024 ![] bcast_S_S16384x1024),
    TRef.binary (.of main_v58) main_call5.v0 main_call5.v1 maximumf,
    binary main_v59 main_arg13 main_v60 (fun l r => Host.dotGeneral dot_S16384x1024_S1024x512_S16384x512_1_0_0_1_n_n none l r),
    unary main_arg14 main_v61 (broadcastInDim S1x512 ![1] bcast_S512_S1x512_1),
    unary main_v61 main_v62 (broadcastInDim S16384x512 ![0, 1] bcast_S1x512_S16384x512_0_1),
    binary main_v60 main_v62 main_v63 addf,
    reshape main_v63 main_v64 rfl shapeCasts_S16384x512_S8x2048x512 ]

/-- The reconstruction loss and the totals. -/
abbrev losses : List (HloOp τ sig (Elt F)) :=
  [ binary main_v64 main_arg0 main_v65 subf,
    binary main_v65 main_v65 main_v66 mulf,
    nullary main_cst_7 (constant S_ .f32 0x00000000#32),
    binary main_v66 main_cst_7 main_v67 (fun x v => Host.reduceAdd x v reducesTo_S8x2048x512_S_d0_1_2 h_S_),
    nullary main_cst_8 (constant S_ .f32 0x4B000000#32),
    binary main_v67 main_cst_8 main_v68 Host.divf,
    binary main_v41 main_v45 main_v69 addf,
    binary main_v68 main_v69 main_v70 addf ]

/-- The whole line. -/
abbrev ops : List (HloOp τ sig (Elt F)) := enc ++ dist ++ pick ++ look ++ vq ++ dec ++ losses

set_option maxRecDepth 4096 in
/-- The reference program is this line. -/
theorem main_eq (c : Dev nD) : main (F := F) c = seq ops := by
  simp only [main, main_part0, main_part1, fn_relu.body, fn_argmin.body, fn_take.body, fn_where.body, seq, bind_assoc, pure_bind]
  rfl

/-- No reference is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every buffer of the encoder is one of the core. -/
theorem enc_sub : (enc : List (HloOp τ sig (Elt F))).Forall fun op => op.bufs ⊆ tcRefs τ sig :=
  ⟨reshape_bufs_sub .., reshape_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., reshape_bufs_sub ..⟩

/-- Every buffer of the squared distance of every latent row to every codebook row is one of the core. -/
theorem dist_sub : (dist : List (HloOp τ sig (Elt F))).Forall fun op => op.bufs ⊆ tcRefs τ sig :=
  ⟨reshape_bufs_sub .., binary_bufs_sub .., nullary_bufs_sub .., binary_bufs_sub .., unary_bufs_sub .., unary_bufs_sub ..,
    binary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., binary_bufs_sub ..⟩

/-- Every buffer of the position of the nearest codebook row is one of the core. -/
theorem pick_sub : (pick : List (HloOp τ sig (Elt F))).Forall fun op => op.bufs ⊆ tcRefs τ sig :=
  ⟨nullary_bufs_sub .., nullary_bufs_sub .., nullary_bufs_sub .., quaternary_bufs_sub .., quaternary_bufs_sub ..⟩

/-- Every buffer of the look-up of the chosen codebook rows is one of the core. -/
theorem look_sub : (look : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every buffer of the quantized rows, their tokens and their two losses is one of the core. -/
theorem vq_sub : (vq : List (HloOp τ sig (Elt F))).Forall fun op => op.bufs ⊆ tcRefs τ sig :=
  ⟨reshape_bufs_sub .., reshape_bufs_sub .., binary_bufs_sub .., binary_bufs_sub .., nullary_bufs_sub .., binary_bufs_sub ..,
    nullary_bufs_sub .., binary_bufs_sub .., nullary_bufs_sub .., binary_bufs_sub .., binary_bufs_sub .., binary_bufs_sub ..,
    nullary_bufs_sub .., binary_bufs_sub .., nullary_bufs_sub .., binary_bufs_sub .., binary_bufs_sub .., binary_bufs_sub ..⟩

/-- Every buffer of the decoder is one of the core. -/
theorem dec_sub : (dec : List (HloOp τ sig (Elt F))).Forall fun op => op.bufs ⊆ tcRefs τ sig :=
  ⟨reshape_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., reshape_bufs_sub ..⟩

/-- Every buffer of the reconstruction loss and the totals is one of the core. -/
theorem losses_sub : (losses : List (HloOp τ sig (Elt F))).Forall fun op => op.bufs ⊆ tcRefs τ sig :=
  ⟨binary_bufs_sub .., binary_bufs_sub .., nullary_bufs_sub .., binary_bufs_sub .., nullary_bufs_sub .., binary_bufs_sub ..,
    binary_bufs_sub .., binary_bufs_sub ..⟩

/-- Every buffer of the line is one of the core. -/
theorem ops_sub : (ops : List (HloOp τ sig (Elt F))).Forall fun op => op.bufs ⊆ tcRefs τ sig := by
  simp only [ops, List.forall_append]
  exact ⟨⟨⟨⟨⟨⟨enc_sub, dist_sub⟩, pick_sub⟩, look_sub⟩, vq_sub⟩, dec_sub⟩, losses_sub⟩

/-- From any memory, every fair execution of the reference ends, with each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref
-- ==== Proof.RefEnc.lean ====
module

public import proofs.«01_k».proof.Proof.RefRun
public import proofs.«01_k».proof.Proof.Block

/-! # The reference's encoder, row by row -/

open Idealize Idealize.ShloMosaic Idealize.ShloMosaic.TcCoe Idealize.ShloMosaic.StableHlo

@[expose] public noncomputable section

set_option maxRecDepth 16384

namespace Cert.Proof.Ref

open Cert.ReferenceIdeal Cert.ReferenceIdeal.Gen Cert.Proof.Spec Cert.Proof.Block

variable (V : Valuation τ sig (Elt Ideal))

/-- The fifteen arguments that a device's buffers hold. -/
def held : Args where
  x0 := V (main_arg0 : DevRef τ sig)
  x1 := V (main_arg1 : DevRef τ sig)
  x2 := V (main_arg2 : DevRef τ sig)
  x3 := V (main_arg3 : DevRef τ sig)
  x4 := V (main_arg4 : DevRef τ sig)
  x5 := V (main_arg5 : DevRef τ sig)
  x6 := V (main_arg6 : DevRef τ sig)
  x7 := V (main_arg7 : DevRef τ sig)
  x8 := V (main_arg8 : DevRef τ sig)
  x9 := V (main_arg9 : DevRef τ sig)
  x10 := V (main_arg10 : DevRef τ sig)
  x11 := V (main_arg11 : DevRef τ sig)
  x12 := V (main_arg12 : DevRef τ sig)
  x13 := V (main_arg13 : DevRef τ sig)
  x14 := V (main_arg14 : DevRef τ sig)

/-- A hidden layer over all rows: the positive part of a matrix and a bias, from the rows' product with the matrix. -/
def hidden (p : FVec Ideal S16384x1024 .f32) (b : FVec Ideal S1024 .f32) : FVec Ideal S16384x1024 .f32 :=
  maximumf (addf p (broadcastInDim S16384x1024 ![0, 1] bcast_S1x1024_S16384x1024_0_1
    (broadcastInDim S1x1024 ![1] bcast_S1024_S1x1024_1 b)))
    (broadcastInDim S16384x1024 ![] bcast_S_S16384x1024 (constant S_ .f32 0x00000000#32))

/-- The encoder's array expression. -/
def encArr (x0 : FVec Ideal S8x2048x512 .f32) (x1 : FVec Ideal S8x2048x32 .f32) (x2 : FVec Ideal S544x1024 .f32)
    (x3 : FVec Ideal S1024 .f32) (x4 : FVec Ideal S1024x1024 .f32) (x5 : FVec Ideal S1024 .f32)
    (x6 : FVec Ideal S1024x64 .f32) (x7 : FVec Ideal S64 .f32) : FVec Ideal S8x2048x64 .f32 :=
  shapeCast S8x2048x64 (addf (Host.dotGeneral dot_S16384x1024_S1024x64_S16384x64_1_0_0_1_n_n none
    (hidden (Host.dotGeneral dot_S16384x1024_S1024x1024_S16384x1024_1_0_0_1_n_n none
      (hidden (Host.dotGeneral dot_S16384x544_S544x1024_S16384x1024_1_0_0_1_n_n none
        (concatenate S16384x544 1 [⟨S16384x512, shapeCast S16384x512 x0 shapeCasts_S8x2048x512_S16384x512⟩,
          ⟨S16384x32, shapeCast S16384x32 x1 shapeCasts_S8x2048x32_S16384x32⟩]
          concatenates_S16384x512_S16384x32_S16384x544_d1) x2) x3) x4) x5) x6)
    (broadcastInDim S16384x64 ![0, 1] bcast_S1x64_S16384x64_0_1 (broadcastInDim S1x64 ![1] bcast_S64_S1x64_1 x7)))
    shapeCasts_S16384x64_S8x2048x64

/-- After the encoder the latents' buffer holds that expression of the arguments. -/
theorem after_enc : after enc V (main_v17 : DevRef τ sig) = encArr (held V).x0 (held V).x1 (held V).x2 (held V).x3
    (held V).x4 (held V).x5 (held V).x6 (held V).x7 := by
  after_results_simp
  rfl

/-- The encoder's expression at a row is the latent row. -/
theorem encArr_eq (A : Args) : encArr A.x0 A.x1 A.x2 A.x3 A.x4 A.x5 A.x6 A.x7 = A.latArr := by
  funext z
  obtain ⟨t, i, l, rfl⟩ : ∃ t i l, z = ix3 t i l := ⟨z 0, z 1, z 2, eq_ix3 z _ _ _ rfl rfl rfl⟩
  unfold encArr hidden
  pointwise
  rfl

end Cert.Proof.Ref
-- ==== Proof.RefKeep.lean ====
module

public import proofs.«01_k».proof.Proof.RefEnc

/-! # What each stretch of the reference leaves alone -/

open Idealize Idealize.ShloMosaic Idealize.ShloMosaic.TcCoe Idealize.ShloMosaic.StableHlo

@[expose] public noncomputable section

namespace Cert.Proof.Ref

open Cert.ReferenceIdeal Cert.ReferenceIdeal.Gen

/-- What the stretch `enc` writes. -/
abbrev encW : List (Ref sig .tc) :=
  [main_v0, main_v1, main_v2, main_v3, main_v4, main_v5, main_v6, main_call0_cst,
   main_call0_v0, main_v7, main_v8, main_v9, main_v10, main_v11, main_call1_cst, main_call1_v0,
   main_v12, main_v13, main_v14, main_v15, main_v16, main_v17]

/-- What the stretch `dist` writes. -/
abbrev distW : List (Ref sig .tc) :=
  [main_v18, main_v19, main_cst, main_v20, main_v21, main_v22, main_v23, main_cst_0,
   main_v24, main_v25, main_v26, main_v27, main_v28, main_cst_1, main_v29, main_v30,
   main_v31, main_v32]

/-- What the stretch `pick` writes. -/
abbrev pickW : List (Ref sig .tc) :=
  [main_call2_v0, main_call2_cst, main_call2_c, main_call2_v1_0, main_v33]

/-- What the stretch `look` writes. -/
abbrev lookW : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v34]

/-- What the stretch `vq` writes. -/
abbrev vqW : List (Ref sig .tc) :=
  [main_v35, main_v36, main_v37, main_v38, main_cst_2, main_v39, main_cst_3, main_v40,
   main_cst_4, main_v41, main_v42, main_v43, main_cst_5, main_v44, main_cst_6, main_v45,
   main_v46, main_v47]

/-- What the stretch `dec` writes. -/
abbrev decW : List (Ref sig .tc) :=
  [main_v48, main_v49, main_v50, main_v51, main_v52, main_v53, main_call4_cst, main_call4_v0,
   main_v54, main_v55, main_v56, main_v57, main_v58, main_call5_cst, main_call5_v0, main_v59,
   main_v60, main_v61, main_v62, main_v63, main_v64]

/-- What the stretch `losses` writes. -/
abbrev lossesW : List (Ref sig .tc) :=
  [main_v65, main_v66, main_cst_7, main_v67, main_cst_8, main_v68, main_v69, main_v70]

/-- The stretch `enc` leaves every other buffer as it was. -/
theorem enc_keep (V : Valuation τ sig (Elt Ideal)) {r : Ref sig .tc} (h : r ∉ encW) :
    after (enc (F := Ideal)) V (Proc.devRef .tc r) = V (Proc.devRef .tc r) :=
  after_of_writes_sub (enc (F := Ideal)) V (forall_writes_sub_of_map (W := encW) rfl) h

/-- The stretch `dist` leaves every other buffer as it was. -/
theorem dist_keep (V : Valuation τ sig (Elt Ideal)) {r : Ref sig .tc} (h : r ∉ distW) :
    after (dist (F := Ideal)) V (Proc.devRef .tc r) = V (Proc.devRef .tc r) :=
  after_of_writes_sub (dist (F := Ideal)) V (forall_writes_sub_of_map (W := distW) rfl) h

/-- The stretch `pick` leaves every other buffer as it was. -/
theorem pick_keep (V : Valuation τ sig (Elt Ideal)) {r : Ref sig .tc} (h : r ∉ pickW) :
    after (pick (F := Ideal)) V (Proc.devRef .tc r) = V (Proc.devRef .tc r) :=
  after_of_writes_sub (pick (F := Ideal)) V (forall_writes_sub_of_map (W := pickW) rfl) h

/-- The stretch `look` leaves every other buffer as it was. -/
theorem look_keep (V : Valuation τ sig (Elt Ideal)) {r : Ref sig .tc} (h : r ∉ lookW) :
    after (look (F := Ideal)) V (Proc.devRef .tc r) = V (Proc.devRef .tc r) :=
  after_of_writes_sub (look (F := Ideal)) V (forall_writes_sub_of_map (W := lookW) rfl) h

/-- The stretch `vq` leaves every other buffer as it was. -/
theorem vq_keep (V : Valuation τ sig (Elt Ideal)) {r : Ref sig .tc} (h : r ∉ vqW) :
    after (vq (F := Ideal)) V (Proc.devRef .tc r) = V (Proc.devRef .tc r) :=
  after_of_writes_sub (vq (F := Ideal)) V (forall_writes_sub_of_map (W := vqW) rfl) h

/-- The stretch `dec` leaves every other buffer as it was. -/
theorem dec_keep (V : Valuation τ sig (Elt Ideal)) {r : Ref sig .tc} (h : r ∉ decW) :
    after (dec (F := Ideal)) V (Proc.devRef .tc r) = V (Proc.devRef .tc r) :=
  after_of_writes_sub (dec (F := Ideal)) V (forall_writes_sub_of_map (W := decW) rfl) h

/-- The stretch `losses` leaves every other buffer as it was. -/
theorem losses_keep (V : Valuation τ sig (Elt Ideal)) {r : Ref sig .tc} (h : r ∉ lossesW) :
    after (losses (F := Ideal)) V (Proc.devRef .tc r) = V (Proc.devRef .tc r) :=
  after_of_writes_sub (losses (F := Ideal)) V (forall_writes_sub_of_map (W := lossesW) rfl) h

/-- A buffer no stretch writes holds at the end what it held at the start. -/
theorem ops_keep (V : Valuation τ sig (Elt Ideal)) {r : Ref sig .tc}
    (h : r ∉ encW ++ distW ++ pickW ++ lookW ++ vqW ++ decW ++ lossesW) :
    after (ops (F := Ideal)) V (Proc.devRef .tc r) = V (Proc.devRef .tc r) := by
  simp only [List.mem_append, not_or] at h
  obtain ⟨⟨⟨⟨⟨⟨h1, h2⟩, h3⟩, h4⟩, h5⟩, h6⟩, h7⟩ := h
  simp only [ops, after_append]
  rw [losses_keep _ h7, dec_keep _ h6, vq_keep _ h5, look_keep _ h4, pick_keep _ h3, dist_keep _ h2, enc_keep _ h1]

end Cert.Proof.Ref
-- ==== Proof.RefPick.lean ====
module

public import proofs.«01_k».proof.Proof.RefEnc
public import proofs.«01_k».proof.Proof.Scalars

/-! # The reference's choice of a codeword: the fold over a row's distances ends at the first least place -/

open Idealize Idealize.ShloMosaic Idealize.ShloMosaic.TcCoe Idealize.ShloMosaic.StableHlo

@[expose] public noncomputable section

set_option maxRecDepth 16384

namespace Cert.Proof.Ref

open Cert.ReferenceIdeal Cert.ReferenceIdeal.Gen Cert.Proof.Spec Cert.Proof.Block Cert.Proof.Scalars

/-- One pair comes no later than another: a smaller value, or the same value at a place no greater. -/
def NoLater (p q : EReal × BitVec 32) : Prop := p.1 < q.1 ∨ (p.1 = q.1 ∧ p.2.toInt ≤ q.2.toInt)

/-- A pair is no later than itself. -/
theorem NoLater.refl (p : EReal × BitVec 32) : NoLater p p := Or.inr ⟨rfl, le_rfl⟩

/-- No later than a pair that is no later. -/
theorem NoLater.trans {p q r : EReal × BitVec 32} (h : NoLater p q) (h' : NoLater q r) : NoLater p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A step of the fold keeps one of its two pairs, and one that comes no later than either. -/
theorem step (a b : EReal × BitVec 32) :
    (reducer_argmin_f32_i32 (F := Ideal) a b = a ∨ reducer_argmin_f32_i32 (F := Ideal) a b = b)
    ∧ NoLater (reducer_argmin_f32_i32 (F := Ideal) a b) a ∧ NoLater (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      simp [reducer_argmin_f32_i32, Ideal.cmpf_def, Ideal.cmp, Scalar.select, IntOp.ori, IntOp.andi, h, h.ne]
    rw [e]
    exact ⟨Or.inl rfl, NoLater.refl _, Or.inl h⟩
  · subst h
    by_cases hij : i.toInt < j.toInt
    · have e : reducer_argmin_f32_i32 (F := Ideal) (x, i) (x, j) = (x, i) := by
        simp [reducer_argmin_f32_i32, Ideal.cmpf_def, Ideal.cmp, Scalar.select, IntOp.ori, IntOp.andi, IntOp.cmpi, BitVec.slt_eq_decide, hij]
      rw [e]
      exact ⟨Or.inl rfl, NoLater.refl _, Or.inr ⟨rfl, hij.le⟩⟩
    · have e : reducer_argmin_f32_i32 (F := Ideal) (x, i) (x, j) = (x, j) := by
        simp [reducer_argmin_f32_i32, Ideal.cmpf_def, Ideal.cmp, Scalar.select, IntOp.ori, IntOp.andi, IntOp.cmpi, BitVec.slt_eq_decide, hij]
      rw [e]
      exact ⟨Or.inr rfl, Or.inr ⟨rfl, not_lt.1 hij⟩, NoLater.refl _⟩
  · have e : reducer_argmin_f32_i32 (F := Ideal) (x, i) (y, j) = (y, j) := by
      simp [reducer_argmin_f32_i32, Ideal.cmpf_def, Ideal.cmp, Scalar.select, IntOp.ori, IntOp.andi, h.not_gt, h.ne']
    rw [e]
    exact ⟨Or.inr rfl, Or.inl h, NoLater.refl _⟩

/-- The whole fold ends at one of the pairs it met, one that comes no later than any of them. -/
theorem fold_spec (L : List (EReal × BitVec 32)) (s : EReal × BitVec 32) :
    L.foldl (reducer_argmin_f32_i32 (F := Ideal)) s ∈ s :: L
    ∧ ∀ q ∈ s :: L, NoLater (L.foldl (reducer_argmin_f32_i32 (F := Ideal)) s) q := by
  induction L generalizing s with
  | nil => exact ⟨List.mem_singleton.2 rfl, fun q hq => List.mem_singleton.1 hq ▸ NoLater.refl _⟩
  | cons b L ih =>
    obtain ⟨hm, hl⟩ := ih (reducer_argmin_f32_i32 (F := Ideal) s b)
    obtain ⟨hs, ha, hb⟩ := step s b
    rw [List.foldl_cons]
    have h0 := hl _ List.mem_cons_self
    refine ⟨?_, fun q hq => ?_⟩
    · rcases List.mem_cons.1 hm with e | e
      · rw [e]
        rcases hs with e' | e' <;> rw [e'] <;> simp
      · exact List.mem_cons_of_mem _ (List.mem_cons_of_mem _ e)
    · rcases List.mem_cons.1 hq with rfl | hq
      · exact h0.trans ha
      · rcases List.mem_cons.1 hq with rfl | hq
        · exact h0.trans hb
        · exact hl q (List.mem_cons_of_mem _ hq)

/-- A fold over the pairs of a family's values and places, from the greatest value at place 0, ends at the
    family's first least place. -/
theorem fold_place (f : Fin 1024 → EReal) (L : List (EReal × BitVec 32))
    (hL : ∀ p, p ∈ L ↔ ∃ k : Fin 1024, p = (f k, BitVec.ofNat 32 k.val)) (s : EReal × BitVec 32) (hs : s = (⊤, 0#32)) :
    (L.foldl (reducer_argmin_f32_i32 (F := Ideal)) s).2 = BitVec.ofNat 32 (firstMin f).val := by
  subst hs
  obtain ⟨hm, hl⟩ := fold_spec L (⊤, 0#32)
  generalize L.foldl (reducer_argmin_f32_i32 (F := Ideal)) (⊤, 0#32) = p at hm hl
  have hall : ∀ k : Fin 1024, NoLater p (f k, BitVec.ofNat 32 k.val) := fun k =>
    hl _ (List.mem_cons_of_mem _ ((hL _).2 ⟨k, rfl⟩))
  have hk : ∃ k : Fin 1024, p = (f k, BitVec.ofNat 32 k.val) := by
    rcases List.mem_cons.1 hm with rfl | hm
    · rcases hall 0 with h | ⟨h, -⟩
      · exact absurd h not_top_lt
      · exact ⟨0, Prod.ext h rfl⟩
    · exact (hL _).1 hm
  obtain ⟨k, rfl⟩ := hk
  have : k = firstMin f := eq_firstMin ⟨fun j => by
      rcases hall j with h | ⟨h, -⟩
      · exact le_of_lt h
      · exact le_of_eq h, fun j hj => by
      rcases hall j with h | ⟨-, h⟩
      · exact absurd hj (ne_of_gt h)
      · simp only [toInt_ofNat k.isLt.le, toInt_ofNat j.isLt.le] at h
        exact Fin.le_def.2 (by omega)⟩
  rw [this]

/-- A reduction of two arrays by this step, from the greatest value at place 0, where the pairs it meets are those
    of a family's values and places, gives the family's first least place. -/
theorem reduction_place {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (f : Fin 1024 → EReal) (hx : ix (Shape.Idx.first hu) = (⊤ : EReal)) (hy : iy (Shape.Idx.first hu) = 0#32)
    (hL : ∀ p, p ∈ Host.argReduceFiber x y h j ↔ ∃ k : Fin 1024, p = (f k, BitVec.ofNat 32 k.val)) :
    (Host.argReduce reducer_argmin_f32_i32 x y ix iy h hu j).2 = BitVec.ofNat 32 (firstMin f).val := by
  rw [Ideal.argReduce_eq_reduce2, Host.reduce2_eq_foldl_fiber]
  exact fold_place f _ hL _ (Prod.ext hx hy)

/-- The pairs that the fold of row `r` meets are the row's values with their places. -/
theorem mem_fiber (x : FVec Ideal S16384x1024 .f32) (r : Fin 16384) (p : EReal × BitVec 32) :
    p ∈ Host.argReduceFiber x (iotaInDim S16384x1024 32 1) reducesTo_S16384x1024_S16384_d1 (ix1 r)
      ↔ ∃ k : Fin 1024, p = (x (ix2 r k), BitVec.ofNat 32 k.val) := by
  have hd : ∀ i : S16384x1024.Idx, reducesTo_S16384x1024_S16384_d1.drop i = ix1 r ↔ i 0 = r := fun i => by
    have hv := Shape.ReducesTo.drop_apply_val_of_eq reducesTo_S16384x1024_S16384_d1 i 0 0
    constructor
    · intro h
      rw [h] at hv
      exact (Fin.ext hv).symm
    · intro h
      funext b
      obtain rfl : b = 0 := Subsingleton.elim _ _
      exact Fin.ext (hv.trans (congrArg Fin.val h))
  unfold Host.argReduceFiber
  simp only [List.mem_map, List.mem_filter, List.mem_finRange, true_and, decide_eq_true_eq, hd]
  constructor
  · rintro ⟨n, hn, rfl⟩
    refine ⟨S16384x1024.rowMajor.symm n 1, ?_⟩
    generalize S16384x1024.rowMajor.symm n = i at hn
    obtain ⟨a, b, rfl⟩ : ∃ a b, i = ix2 a b := ⟨i 0, i 1, eq_ix2 i _ _ rfl rfl⟩
    obtain rfl : a = r := hn
    rfl
  · rintro ⟨k, rfl⟩
    refine ⟨S16384x1024.rowMajor (ix2 r k), ?_, ?_⟩
    · rw [Equiv.symm_apply_apply]; rfl
    · rw [Equiv.symm_apply_apply]; rfl

/-- The tokens of an array of distances. -/
def pickArr (x : FVec Ideal S16384x1024 .f32) : IVec S16384 32 := fun j =>
  (Host.argReduce reducer_argmin_f32_i32 x (iotaInDim S16384x1024 32 1) (constant S_ .f32 0x7F800000#32)
    (constantI S_ 32 0#32) reducesTo_S16384x1024_S16384_d1 h_S_ j).2

/-- After the choice the tokens' buffer holds that expression. -/
theorem after_pick (V : Valuation τ sig (Elt Ideal)) :
    after pick V (main_v33 : DevRef τ sig) = pickArr (V (main_v32 : DevRef τ sig)) := by
  after_results_simp
  simp -implicitDefEqProofs only [TRef.toBuf, TRef.ofBuf, cast_cast, cast_eq]
  unfold pickArr
  with_reducible rfl

/-- The fold's first value is the greatest. -/
theorem start_top : constant (F := Ideal) S_ .f32 0x7F800000#32 (Shape.Idx.first h_S_) = (⊤ : EReal) := by
  have ht : (Ideal.ofBits .f32 0x7F800000#32 : EReal) = ⊤ := by simp [Ideal.ofBits, Ideal.ieee]
  exact ht

/-- The fold's first place is 0. -/
theorem start_zero : constantI S_ 32 0#32 (Shape.Idx.first h_S_) = 0#32 := rfl

/-- The expression spelt out, as a function of the row. -/
theorem pickArr_def (x : FVec Ideal S16384x1024 .f32) : pickArr x = fun j =>
    (Host.argReduce reducer_argmin_f32_i32 x (iotaInDim S16384x1024 32 1) (constant S_ .f32 0x7F800000#32)
      (constantI S_ 32 0#32) reducesTo_S16384x1024_S16384_d1 h_S_ j).2 := by
  unfold pickArr
  with_reducible rfl

/-- The token of row `r` is the first place of the row's least distance. -/
theorem pickArr_apply (x : FVec Ideal S16384x1024 .f32) (r : Fin 16384) :
    pickArr x (ix1 r) = BitVec.ofNat 32 (firstMin fun k => x (ix2 r k)).val :=
  (congrFun (pickArr_def x) (ix1 r)).trans
    (reduction_place x (iotaInDim S16384x1024 32 1) _ _ reducesTo_S16384x1024_S16384_d1 h_S_ (ix1 r)
      (fun k => x (ix2 r k)) start_top start_zero (mem_fiber x r))

end Cert.Proof.Ref
-- ==== Proof.RefDist.lean ====
module

public import proofs.«01_k».proof.Proof.RefEnc
public import proofs.«01_k».proof.Proof.Scalars
public import Idealize.ShloMosaic.Lib.Routing.Ops

/-! # The reference's distances, its look-up of codewords, and its decoder -/

open Idealize Idealize.ShloMosaic Idealize.ShloMosaic.TcCoe Idealize.ShloMosaic.StableHlo

@[expose] public noncomputable section

set_option maxRecDepth 16384

namespace Cert.Proof.Ref

open Cert.ReferenceIdeal Cert.ReferenceIdeal.Gen Cert.Proof.Spec Cert.Proof.Block Cert.Proof.Scalars

variable (V : Valuation τ sig (Elt Ideal))

/-- The squared distances of all latent rows `L` to all codewords `C`. -/
def distArr (L : FVec Ideal S8x2048x64 .f32) (C : FVec Ideal S1024x64 .f32) : FVec Ideal S16384x1024 .f32 :=
  addf (subf
    (broadcastInDim S16384x1024 ![0, 1] bcast_S16384x1_S16384x1024_0_1 (broadcastInDim S16384x1 ![0] bcast_S16384_S16384x1_0
      (Host.reduceAdd (mulf (shapeCast S16384x64 L shapeCasts_S8x2048x64_S16384x64) (shapeCast S16384x64 L shapeCasts_S8x2048x64_S16384x64))
        (constant S_ .f32 0x00000000#32) reducesTo_S16384x64_S16384_d1 h_S_)))
    (mulf (broadcastInDim S16384x1024 ![] bcast_S_S16384x1024 (constant S_ .f32 0x40000000#32))
      (Host.dotGeneral dot_S16384x64_S64x1024_S16384x1024_1_0_0_1_n_n none (shapeCast S16384x64 L shapeCasts_S8x2048x64_S16384x64)
        (transpose S64x1024 [1, 0] C transposes_S1024x64_S64x1024_1_0))))
    (broadcastInDim S16384x1024 ![0, 1] bcast_S1x1024_S16384x1024_0_1 (broadcastInDim S1x1024 ![1] bcast_S1024_S1x1024_1
      (Host.reduceAdd (mulf C C) (constant S_ .f32 0x00000000#32) reducesTo_S1024x64_S1024_d1 h_S_)))

/-- After that stretch the distances' buffer holds that expression. -/
theorem after_dist : after dist V (main_v32 : DevRef τ sig)
    = distArr (V (main_v17 : DevRef τ sig)) (V (main_arg8 : DevRef τ sig)) := by
  after_results_simp
  rfl

/-- The row of the flat arrays that holds row `i` of batch entry `t`. -/
def flatRow (t : Fin 8) (i : Fin 2048) : Fin 16384 := ⟨t.val * 2048 + i.val, by omega⟩

/-- The distances of row `i` of batch entry `t`. -/
theorem distArr_apply (A : Args) (t : Fin 8) (i : Fin 2048) (k : Fin 1024) :
    distArr A.latArr A.x8 (ix2 (flatRow t i) k) = cbDist A.w.cb (lat A.w (A.o t i) (A.a t i)) k := by
  unfold distArr flatRow
  pointwise
  rfl

/-- The look-up of the codewords `C` at the tokens `T`. -/
def lookArr (C : FVec Ideal S1024x64 .f32) (T : IVec S16384 32) : FVec Ideal S16384x64 .f32 :=
  let J : IVec S16384x1 32 := broadcastInDim S16384x1 ![0] bcast_S16384_S16384x1_0
    (select (cmpi .slt T (broadcastInDim S16384 ![] bcast_S_S16384 (constantI S_ 32 0#32)))
      (addi T (broadcastInDim S16384 ![] bcast_S_S16384 (constantI S_ 32 1024#32))) T)
  select (broadcastInDim S16384x64 ![0] bcast_S16384_S16384x64_0
      (Host.reduce IntOp.andi (andi
          (cmpi .sge J (broadcastInDim S16384x1 ![] bcast_S_S16384x1 (constantI S_ 32 0#32)))
          (cmpi .sle J (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 C J)
    (broadcastInDim S16384x64 ![] bcast_S_S16384x64 (constant S_ .f32 0x7FC00000#32))

/-- After that stretch the codewords' buffer holds that expression. -/
theorem after_look : after look V (main_v34 : DevRef τ sig)
    = lookArr (V (main_arg8 : DevRef τ sig)) (V (main_v33 : DevRef τ sig)) := by
  after_results_simp
  simp -implicitDefEqProofs only [TRef.toBuf, TRef.ofBuf, cast_cast, cast_eq]
  unfold lookArr
  dsimp only

/-- Where a token is a place `k` of the codebook, the look-up reads codeword `k`. -/
theorem lookArr_apply (C : FVec Ideal S1024x64 .f32) (T : IVec S16384 32) (r : Fin 16384) (k : Fin 1024)
    (h : T (ix1 r) = BitVec.ofNat 32 k.val) (l : Fin 64) : lookArr C T (ix2 r l) = C (ix2 k l) := by
  have hs : ∀ c : ℕ, c ≤ 1023 → (BitVec.ofNat 32 c).toInt = c := fun c hc => toInt_ofNat (by omega)
  have hn : IntOp.cmpi CmpIPredicate.slt (BitVec.ofNat 32 k.val) 0#32 = 0#1 := by
    simp only [IntOp.cmpi, BitVec.slt_eq_decide, hs k.val (by omega), BitVec.toInt_zero]
    rw [decide_eq_false (by omega)]
    rfl
  have hj : broadcastInDim S16384x1 ![0] bcast_S16384_S16384x1_0
      (select (cmpi .slt T (broadcastInDim S16384 ![] bcast_S_S16384 (constantI S_ 32 0#32)))
        (addi T (broadcastInDim S16384 ![] bcast_S_S16384 (constantI S_ 32 1024#32))) T) (ix2 r (0 : Fin 1))
      = BitVec.ofNat 32 k.val := by
    pointwise
    rw [h, hn]
    rfl
  unfold lookArr
  dsimp only
  have hg := Routing.gather_row gather_S1024x64_S16384x1_S16384x64_1_0_n_n_0_1_164 rfl rfl rfl rfl rfl C _ r l k hj (by decide)
  pointwise
  refine Eq.trans ?_ hg
  have hm : Finset.fold IntOp.andi (1#1) (fun _ : Fin 1 =>
          IntOp.andi
            (IntOp.cmpi CmpIPredicate.sge (Scalar.select (IntOp.cmpi CmpIPredicate.slt (T (ix1 r)) 0#32)
              (IntOp.addi (T (ix1 r)) 1024#32) (T (ix1 r))) 0#32)
            (IntOp.cmpi CmpIPredicate.sle (Scalar.select (IntOp.cmpi CmpIPredicate.slt (T (ix1 r)) 0#32)
              (IntOp.addi (T (ix1 r)) 1024#32) (T (ix1 r))) 1023#32))
        Finset.univ = 1#1 := by
    rw [h, hn]
    have h0 : IntOp.cmpi CmpIPredicate.sge (BitVec.ofNat 32 k.val) 0#32 = 1#1 := by
      simp only [IntOp.cmpi, BitVec.sle_eq_decide, hs k.val (by omega), BitVec.toInt_zero]
      rw [decide_eq_true (by omega)]
      rfl
    have h1 : IntOp.cmpi CmpIPredicate.sle (BitVec.ofNat 32 k.val) 1023#32 = 1#1 := by
      simp only [IntOp.cmpi, BitVec.sle_eq_decide, hs k.val (by omega), hs 1023 (by omega)]
      rw [decide_eq_true (by omega)]
      rfl
    have e : Scalar.select 0#1 (IntOp.addi (BitVec.ofNat 32 k.val) 1024#32) (BitVec.ofNat 32 k.val) = BitVec.ofNat 32 k.val := rfl
    rw [e, h0, h1]
    rfl
  rw [hm]
  rfl

end Cert.Proof.Ref
-- ==== Proof.RefTail.lean ====
module

public import proofs.«01_k».proof.Proof.RefEnc
public import proofs.«01_k».proof.Proof.Scalars

/-! # The reference's quantized rows, its decoder and its losses -/

open Idealize Idealize.ShloMosaic Idealize.ShloMosaic.TcCoe Idealize.ShloMosaic.StableHlo

@[expose] public noncomputable section

set_option maxRecDepth 16384

namespace Cert.Proof.Ref

open Cert.ReferenceIdeal Cert.ReferenceIdeal.Gen Cert.Proof.Spec Cert.Proof.Block Cert.Proof.Scalars

variable (V : Valuation τ sig (Elt Ideal))

/-- The mean of the squares of a difference of two arrays of latent rows. -/
def meanSq (X Y : FVec Ideal S8x2048x64 .f32) : FVec Ideal S_ .f32 :=
  Host.divf (Host.reduceAdd (mulf (subf X Y) (subf X Y)) (constant S_ .f32 0x00000000#32) reducesTo_S8x2048x64_S_d0_1_2 h_S_)
    (constant S_ .f32 0x49800000#32)

/-- The codewords looked up, one a row of a batch entry. -/
def asBatch (Q : FVec Ideal S16384x64 .f32) : FVec Ideal S8x2048x64 .f32 := shapeCast S8x2048x64 Q shapeCasts_S16384x64_S8x2048x64

/-- After that stretch: the tokens, the quantized rows passed on, and the latents' two losses. -/
theorem after_vq :
    after vq V (main_v36 : DevRef τ sig) = shapeCast S8x2048 (V (main_v33 : DevRef τ sig)) shapeCasts_S16384_S8x2048
    ∧ after vq V (main_v47 : DevRef τ sig) = addf (V (main_v17 : DevRef τ sig))
        (subf (asBatch (V (main_v34 : DevRef τ sig))) (V (main_v17 : DevRef τ sig)))
    ∧ after vq V (main_v41 : DevRef τ sig) = mulf (meanSq (V (main_v17 : DevRef τ sig)) (asBatch (V (main_v34 : DevRef τ sig))))
        (constant S_ .f32 0x3E800000#32)
    ∧ after vq V (main_v45 : DevRef τ sig) = meanSq (asBatch (V (main_v34 : DevRef τ sig))) (V (main_v17 : DevRef τ sig)) := by
  refine ⟨?_, ?_, ?_, ?_⟩ <;> after_results_simp <;> rfl

/-- The codewords of an argument's rows. -/
def quantArr (A : Args) : FVec Ideal S8x2048x64 .f32 := fun z => quant A.w (A.o (z 0) (z 1)) (A.a (z 0) (z 1)) (z 2)

/-- The mean square of the latent rows less their codewords is the codebook loss. -/
theorem meanSq_lat (A : Args) : meanSq A.latArr (quantArr A) = A.codebookLoss := by
  unfold meanSq Args.codebookLoss
  congr 1
  funext j
  pointwise
  rfl

/-- So is that of the codewords less the latent rows. -/
theorem meanSq_quant (A : Args) : meanSq (quantArr A) A.latArr = A.codebookLoss := by
  rw [← meanSq_lat]
  unfold meanSq
  congr 2
  funext z
  exact sub_sq_comm _ _

/-- The decoder's array expression, of the rows passed on `Q` and the flat actions `a`. -/
def decArr (Q : FVec Ideal S8x2048x64 .f32) (a : FVec Ideal S16384x32 .f32) (x9 : FVec Ideal S96x1024 .f32)
    (x10 : FVec Ideal S1024 .f32) (x11 : FVec Ideal S1024x1024 .f32) (x12 : FVec Ideal S1024 .f32)
    (x13 : FVec Ideal S1024x512 .f32) (x14 : FVec Ideal S512 .f32) : FVec Ideal S8x2048x512 .f32 :=
  shapeCast S8x2048x512 (addf (Host.dotGeneral dot_S16384x1024_S1024x512_S16384x512_1_0_0_1_n_n none
    (hidden (Host.dotGeneral dot_S16384x1024_S1024x1024_S16384x1024_1_0_0_1_n_n none
      (hidden (Host.dotGeneral dot_S16384x96_S96x1024_S16384x1024_1_0_0_1_n_n none
        (concatenate S16384x96 1 [⟨S16384x64, shapeCast S16384x64 Q shapeCasts_S8x2048x64_S16384x64⟩, ⟨S16384x32, a⟩]
          concatenates_S16384x64_S16384x32_S16384x96_d1) x9) x10) x11) x12) x13)
    (broadcastInDim S16384x512 ![0, 1] bcast_S1x512_S16384x512_0_1 (broadcastInDim S1x512 ![1] bcast_S512_S1x512_1 x14)))
    shapeCasts_S16384x512_S8x2048x512

/-- After the decoder the reconstruction's buffer holds that expression. -/
theorem after_dec : after dec V (main_v64 : DevRef τ sig) = decArr (V (main_v47 : DevRef τ sig)) (V (main_v1 : DevRef τ sig))
    (V (main_arg9 : DevRef τ sig)) (V (main_arg10 : DevRef τ sig)) (V (main_arg11 : DevRef τ sig))
    (V (main_arg12 : DevRef τ sig)) (V (main_arg13 : DevRef τ sig)) (V (main_arg14 : DevRef τ sig)) := by
  after_results_simp
  rfl

/-- The decoder's expression at a row is the reconstructed row. -/
theorem decArr_eq (A : Args) : decArr A.qstArr (shapeCast S16384x32 A.x1 shapeCasts_S8x2048x32_S16384x32)
    A.x9 A.x10 A.x11 A.x12 A.x13 A.x14 = A.reconArr := by
  funext z
  obtain ⟨t, i, l, rfl⟩ : ∃ t i l, z = ix3 t i l := ⟨z 0, z 1, z 2, eq_ix3 z _ _ _ rfl rfl rfl⟩
  unfold decArr hidden
  pointwise
  rfl

/-- The reconstruction's loss of a reconstruction `X` of `o`. -/
def meanSqRec (X o : FVec Ideal S8x2048x512 .f32) : FVec Ideal S_ .f32 :=
  Host.divf (Host.reduceAdd (mulf (subf X o) (subf X o)) (constant S_ .f32 0x00000000#32) reducesTo_S8x2048x512_S_d0_1_2 h_S_)
    (constant S_ .f32 0x4B000000#32)

/-- At the reconstructed rows it is the reconstruction loss. -/
theorem meanSqRec_eq (A : Args) : meanSqRec A.reconArr A.x0 = A.reconLoss := by
  unfold meanSqRec Args.reconLoss
  congr 1
  funext j
  pointwise
  rfl

/-- After the last stretch: the reconstruction's loss, the quantizer's and the whole. -/
theorem after_losses :
    after losses V (main_v68 : DevRef τ sig) = meanSqRec (V (main_v64 : DevRef τ sig)) (V (main_arg0 : DevRef τ sig))
    ∧ after losses V (main_v69 : DevRef τ sig)
        = addf (s := S_) (φ := .f32) (F := Ideal) (V (main_v41 : DevRef τ sig)) (V (main_v45 : DevRef τ sig))
    ∧ after losses V (main_v70 : DevRef τ sig) = addf (meanSqRec (V (main_v64 : DevRef τ sig)) (V (main_arg0 : DevRef τ sig)))
        (addf (s := S_) (φ := .f32) (F := Ideal) (V (main_v41 : DevRef τ sig)) (V (main_v45 : DevRef τ sig))) := by
  refine ⟨?_, ?_, ?_⟩ <;> after_results_simp <;> rfl

end Cert.Proof.Ref
-- ==== Proof.RefValue.lean ====
module

public import proofs.«01_k».proof.Proof.RefKeep
public import proofs.«01_k».proof.Proof.RefPick
public import proofs.«01_k».proof.Proof.RefDist
public import proofs.«01_k».proof.Proof.RefTail

/-! # What the reference leaves in its results' buffers -/

open Idealize Idealize.ShloMosaic Idealize.ShloMosaic.TcCoe Idealize.ShloMosaic.StableHlo Idealize.SL.Sem

@[expose] public noncomputable section

set_option maxRecDepth 16384

namespace Cert.Proof.Ref

open Cert.ReferenceIdeal Cert.ReferenceIdeal.Gen Cert.Proof.Spec Cert.Proof.Block Cert.Proof.Scalars

/-- The flat tokens of the arguments' rows. -/
def flatTok (A : Args) : IVec S16384 32 := pickArr (distArr A.latArr A.x8)

/-- The flat tokens spelt out. -/
theorem flatTok_def (A : Args) : flatTok A = pickArr (distArr A.latArr A.x8) := by
  unfold flatTok
  with_reducible rfl

/-- Each is its row's token. -/
theorem flatTok_apply (A : Args) (t : Fin 8) (i : Fin 2048) :
    flatTok A (ix1 (flatRow t i)) = BitVec.ofNat 32 (tok A.w (A.o t i) (A.a t i)).val := by
  have h : (fun k => distArr A.latArr A.x8 (ix2 (flatRow t i) k)) = cbDist A.w.cb (lat A.w (A.o t i) (A.a t i)) :=
    funext (distArr_apply A t i)
  rw [flatTok_def, pickArr_apply, h]
  unfold tok
  with_reducible rfl

/-- A flat array of words read batch entry by batch entry. -/
theorem words_batch (T : IVec S16384 32) (t : Fin 8) (i : Fin 2048) :
    shapeCast S8x2048 T shapeCasts_S16384_S8x2048 (ix2 t i) = T (ix1 (flatRow t i)) := by
  pointwise
  rfl

/-- A flat array of rows read batch entry by batch entry. -/
theorem rows_batch (Q : FVec Ideal S16384x64 .f32) (t : Fin 8) (i : Fin 2048) (l : Fin 64) :
    asBatch Q (ix3 t i l) = Q (ix2 (flatRow t i) l) := by
  unfold asBatch
  pointwise
  rfl

/-- Batch entry by batch entry the flat tokens are the tokens' array. -/
theorem flatTok_batch (A : Args) : shapeCast S8x2048 (flatTok A) shapeCasts_S16384_S8x2048 = A.tokArr := by
  funext z
  obtain ⟨t, i, rfl⟩ : ∃ t i, z = ix2 t i := ⟨z 0, z 1, eq_ix2 z _ _ rfl rfl⟩
  rw [words_batch, flatTok_apply]
  rfl

/-- The codewords looked up at these tokens are the rows' codewords. -/
theorem look_batch (A : Args) : asBatch (lookArr A.x8 (flatTok A)) = quantArr A := by
  funext z
  obtain ⟨t, i, l, rfl⟩ : ∃ t i l, z = ix3 t i l := ⟨z 0, z 1, z 2, eq_ix3 z _ _ _ rfl rfl rfl⟩
  rw [rows_batch, lookArr_apply A.x8 (flatTok A) (flatRow t i) _ (flatTok_apply A t i) l]
  rfl

variable (V : Valuation τ sig (Elt Ideal))

/-- The buffers after the encoder, the distances, the choice and the look-up. -/
def looked : Valuation τ sig (Elt Ideal) := after look (after pick (after dist (after enc V)))

/-- They keep what none of them writes. -/
theorem looked_keep {r : Ref sig .tc} (h : r ∉ encW ++ distW ++ pickW ++ lookW) :
    looked V (Proc.devRef .tc r) = V (Proc.devRef .tc r) := by
  simp only [List.mem_append, not_or] at h
  obtain ⟨⟨⟨h1, h2⟩, h3⟩, h4⟩ := h
  rw [looked, look_keep _ h4, pick_keep _ h3, dist_keep _ h2, enc_keep _ h1]

/-- The codebook is the ninth argument. -/
theorem held_codes : (held V).x8 = V (main_arg8 : DevRef τ sig) := rfl

/-- Then the latents' buffer holds the latent rows. -/
theorem looked_lat : looked V (main_v17 : DevRef τ sig) = (held V).latArr := by
  rw [looked, look_keep _ (by decide), pick_keep _ (by decide), dist_keep _ (by decide), after_enc, encArr_eq]

/-- The tokens' buffer holds the flat tokens. -/
theorem looked_tok : looked V (main_v33 : DevRef τ sig) = flatTok (held V) := by
  rw [looked, look_keep _ (by decide), after_pick, after_dist, enc_keep V (r := main_arg8) (by decide), after_enc, encArr_eq,
    flatTok_def, held_codes]

/-- The codewords' buffer holds the codewords at them. -/
theorem looked_quant : looked V (main_v34 : DevRef τ sig) = lookArr (held V).x8 (flatTok (held V)) := by
  rw [looked, after_look, pick_keep _ (by decide), dist_keep _ (by decide), after_pick, after_dist,
    enc_keep V (r := main_arg8) (by decide), after_enc, encArr_eq, flatTok_def, held_codes]

/-- The flat actions' buffer holds the flat actions. -/
theorem looked_act : looked V (main_v1 : DevRef τ sig) = shapeCast S16384x32 (held V).x1 shapeCasts_S8x2048x32_S16384x32 := by
  rw [looked, look_keep _ (by decide), pick_keep _ (by decide), dist_keep _ (by decide)]
  after_results_simp
  rfl

/-- After the quantized rows: the tokens, the rows passed on and the latents' losses. -/
theorem vq_results :
    after vq (looked V) (main_v36 : DevRef τ sig) = (held V).tokArr
    ∧ after vq (looked V) (main_v47 : DevRef τ sig) = (held V).qstArr
    ∧ after vq (looked V) (main_v41 : DevRef τ sig) = (held V).commitLoss
    ∧ after vq (looked V) (main_v45 : DevRef τ sig) = (held V).codebookLoss := by
  obtain ⟨h1, h2, h3, h4⟩ := after_vq (looked V)
  rw [h1, h2, h3, h4, looked_lat, looked_tok, looked_quant, look_batch, meanSq_lat, meanSq_quant, flatTok_batch]
  exact ⟨rfl, rfl, rfl, rfl⟩

/-- After the decoder the reconstruction's buffer holds the reconstructed rows. -/
theorem dec_result : after dec (after vq (looked V)) (main_v64 : DevRef τ sig) = (held V).reconArr := by
  rw [after_dec, (vq_results V).2.1, vq_keep (looked V) (r := main_v1) (by decide), looked_act,
    vq_keep _ (by decide), vq_keep _ (by decide), vq_keep _ (by decide), vq_keep _ (by decide), vq_keep _ (by decide),
    vq_keep _ (by decide), looked_keep _ (by decide), looked_keep _ (by decide), looked_keep _ (by decide),
    looked_keep _ (by decide), looked_keep _ (by decide), looked_keep _ (by decide)]
  exact decArr_eq (held V)

/-- After the whole line the nine results' buffers hold the model's nine results. -/
theorem results :
    after ops V (main_v64 : DevRef τ sig) = (held V).reconArr
    ∧ after ops V (main_v36 : DevRef τ sig) = (held V).tokArr
    ∧ after ops V (main_v47 : DevRef τ sig) = (held V).qstArr
    ∧ after ops V (main_v17 : DevRef τ sig) = (held V).latArr
    ∧ after ops V (main_v68 : DevRef τ sig) = (held V).reconLoss
    ∧ after ops V (main_v41 : DevRef τ sig) = (held V).commitLoss
    ∧ after ops V (main_v45 : DevRef τ sig) = (held V).codebookLoss
    ∧ after ops V (main_v69 : DevRef τ sig) = (held V).quantLoss
    ∧ after ops V (main_v70 : DevRef τ sig) = (held V).totalLoss := by
  have e : after ops V = after losses (after dec (after vq (looked V))) := by
    simp only [ops, after_append, looked]
  obtain ⟨h1, h2, h3, h4⟩ := vq_results V
  obtain ⟨g1, g2, g3⟩ := after_losses (after dec (after vq (looked V)))
  have x0 : after dec (after vq (looked V)) (main_arg0 : DevRef τ sig) = (held V).x0 := by
    rw [dec_keep _ (by decide), vq_keep _ (by decide), looked_keep _ (by decide)]
    rfl
  have d41 : after dec (after vq (looked V)) (main_v41 : DevRef τ sig) = (held V).commitLoss := by
    rw [dec_keep _ (by decide), h3]
  have d45 : after dec (after vq (looked V)) (main_v45 : DevRef τ sig) = (held V).codebookLoss := by
    rw [dec_keep _ (by decide), h4]
  rw [dec_result, x0, meanSqRec_eq] at g1
  rw [d41, d45] at g2
  rw [dec_result, x0, meanSqRec_eq, d41, d45] at g3
  rw [e]
  refine ⟨?_, ?_, ?_, ?_, g1, ?_, ?_, g2, g3⟩
  · rw [losses_keep _ (by decide), dec_result]
  · rw [losses_keep _ (by decide), dec_keep _ (by decide), h1]
  · rw [losses_keep _ (by decide), dec_keep _ (by decide), h2]
  · rw [losses_keep _ (by decide), dec_keep _ (by decide), vq_keep _ (by decide), looked_lat]
  · rw [losses_keep _ (by decide), d41]
  · rw [losses_keep _ (by decide), d45]

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Tail
public import proofs.«01_k».proof.Proof.RefValue
public import Idealize.ShloMosaic.Lib.Claim
public import Idealize.ShloMosaic.Lib.Quiescent
public import proofs.«01_k».proof.Proof.Tail
public import proofs.«01_k».proof.Proof.RefValue
public import Idealize.ShloMosaic.Lib.Claim
public import Idealize.ShloMosaic.Lib.Quiescent
public import Idealize.ShloMosaic.Adequacy
public import Idealize.ShloMosaic.Init

/-! # The certificate

The kernel's run and the reference's run both end with the model's nine results of the arguments. -/

@[expose] public section

noncomputable section

namespace Cert.Proof

open Idealize.ShloMosaic Idealize.ShloMosaic.StableHlo Idealize.SL.Sem

/-- No argument is written by the reference: its final contents are the launch's. -/
theorem ref_kept (m : (ℓ : Loc Cert.ReferenceIdeal.nD Cert.ReferenceIdeal.τ Cert.ReferenceIdeal.sig) → Buf (Elt Ideal) ℓ)
    (c : Dev Cert.ReferenceIdeal.nD) {b : Ref Cert.ReferenceIdeal.sig .tc}
    (hb : b ∉ Ref.encW ++ Ref.distW ++ Ref.pickW ++ Ref.lookW ++ Ref.vqW ++ Ref.decW ++ Ref.lossesW) :
    after (Ref.ops (F := Ideal)) (launchContents m c) (Proc.devRef .tc b) = m ((c.tc : Thread Cert.ReferenceIdeal.nD Cert.ReferenceIdeal.τ).loc b) :=
  Ref.ops_keep _ hb

/-- The reference ends with its arguments unchanged and, having no semaphore, with none raised. -/
theorem frame_ref : Cert.quiescent_ReferenceIdeal := by
  intro m g _
  exact (θ_run Cert.ReferenceIdeal.defs _ _).mono
    (fun r h => ⟨fun c => ⟨(h c Cert.ReferenceIdeal.main_arg0).trans (ref_kept m c (by decide)),
      (h c Cert.ReferenceIdeal.main_arg1).trans (ref_kept m c (by decide)),
      (h c Cert.ReferenceIdeal.main_arg2).trans (ref_kept m c (by decide)),
      (h c Cert.ReferenceIdeal.main_arg3).trans (ref_kept m c (by decide)),
      (h c Cert.ReferenceIdeal.main_arg4).trans (ref_kept m c (by decide)),
      (h c Cert.ReferenceIdeal.main_arg5).trans (ref_kept m c (by decide)),
      (h c Cert.ReferenceIdeal.main_arg6).trans (ref_kept m c (by decide)),
      (h c Cert.ReferenceIdeal.main_arg7).trans (ref_kept m c (by decide)),
      (h c Cert.ReferenceIdeal.main_arg8).trans (ref_kept m c (by decide)),
      (h c Cert.ReferenceIdeal.main_arg9).trans (ref_kept m c (by decide)),
      (h c Cert.ReferenceIdeal.main_arg10).trans (ref_kept m c (by decide)),
      (h c Cert.ReferenceIdeal.main_arg11).trans (ref_kept m c (by decide)),
      (h c Cert.ReferenceIdeal.main_arg12).trans (ref_kept m c (by decide)),
      (h c Cert.ReferenceIdeal.main_arg13).trans (ref_kept m c (by decide)),
      (h c Cert.ReferenceIdeal.main_arg14).trans (ref_kept m c (by decide))⟩,
      sem_eq_zero_of_no_sems (by decide) r.2⟩)
    (Ref.run_main (F := Ideal) m g)

/-- Arguments that agree are one set of arguments. -/
theorem held_eq_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Ref.held (launchContents m' c) = Arrays.args m c := by
  unfold Ref.held Arrays.args
  simp only [Spec.Args.mk.injEq]
  exact h

/-- The kernel and the reference end with equal results and unchanged arguments. -/
theorem equal_results : Cert.algebraic_KernelIdeal_ReferenceIdeal := by
  intro m g m' g' _ hagree
  refine ⟨fun c => (Arrays.args m c).reconArr, fun c => (Arrays.args m c).tokArr, fun c => (Arrays.args m c).qstArr,
    fun c => (Arrays.args m c).latArr, fun c => (Arrays.args m c).reconLoss, fun c => (Arrays.args m c).commitLoss,
    fun c => (Arrays.args m c).codebookLoss, fun c => (Arrays.args m c).quantLoss, fun c => (Arrays.args m c).totalLoss,
    ?_, ?_⟩
  · refine (θ_run Cert.KernelIdeal.defs _ _).mono (fun r h c => ?_)
      (θ_run_and (Arrays.run m g) (Cert.KernelIdeal.Gen.unchanged m g))
    obtain ⟨k0, k1, k2, k3, k4, k5, k6, k7, k8⟩ := h.1 c
    exact ⟨k0, k1, k2, k3, k4, k5, k6, k7, k8, h.2 c⟩
  · refine (θ_run Cert.ReferenceIdeal.defs _ _).mono (fun r h c => ?_) (Ref.run_main (F := Ideal) m' g')
    obtain ⟨k0, k1, k2, k3, k4, k5, k6, k7, k8⟩ := Ref.results (launchContents m' c)
    rw [held_eq_args m m' c (hagree c)] at k0 k1 k2 k3 k4 k5 k6 k7 k8
    exact ⟨(h c Cert.ReferenceIdeal.main_v64).trans k0,
      (h c Cert.ReferenceIdeal.main_v36).trans k1,
      (h c Cert.ReferenceIdeal.main_v47).trans k2,
      (h c Cert.ReferenceIdeal.main_v17).trans k3,
      (h c Cert.ReferenceIdeal.main_v68).trans k4,
      (h c Cert.ReferenceIdeal.main_v41).trans k5,
      (h c Cert.ReferenceIdeal.main_v45).trans k6,
      (h c Cert.ReferenceIdeal.main_v69).trans k7,
      (h c Cert.ReferenceIdeal.main_v70).trans k8,
      (h c Cert.ReferenceIdeal.main_arg0).trans (ref_kept m' c (by decide)),
      (h c Cert.ReferenceIdeal.main_arg1).trans (ref_kept m' c (by decide)),
      (h c Cert.ReferenceIdeal.main_arg2).trans (ref_kept m' c (by decide)),
      (h c Cert.ReferenceIdeal.main_arg3).trans (ref_kept m' c (by decide)),
      (h c Cert.ReferenceIdeal.main_arg4).trans (ref_kept m' c (by decide)),
      (h c Cert.ReferenceIdeal.main_arg5).trans (ref_kept m' c (by decide)),
      (h c Cert.ReferenceIdeal.main_arg6).trans (ref_kept m' c (by decide)),
      (h c Cert.ReferenceIdeal.main_arg7).trans (ref_kept m' c (by decide)),
      (h c Cert.ReferenceIdeal.main_arg8).trans (ref_kept m' c (by decide)),
      (h c Cert.ReferenceIdeal.main_arg9).trans (ref_kept m' c (by decide)),
      (h c Cert.ReferenceIdeal.main_arg10).trans (ref_kept m' c (by decide)),
      (h c Cert.ReferenceIdeal.main_arg11).trans (ref_kept m' c (by decide)),
      (h c Cert.ReferenceIdeal.main_arg12).trans (ref_kept m' c (by decide)),
      (h c Cert.ReferenceIdeal.main_arg13).trans (ref_kept m' c (by decide)),
      (h c Cert.ReferenceIdeal.main_arg14).trans (ref_kept m' c (by decide))⟩

/-- The certificate: the three frames, the idealization and the equality of the results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_ref, trivial, equal_results⟩

end Cert.Proof

end
